-- ==== Defs.lean ====
def Pre_Scores (m : (ℓ : Loc Cert.Scores.nD Cert.Scores.τ Cert.Scores.sig) → Buf (Elt Bits) ℓ) : Prop :=
  True

def Pre_ScoresIdeal (m : (ℓ : Loc Cert.ScoresIdeal.nD Cert.ScoresIdeal.τ Cert.ScoresIdeal.sig) → Buf (Elt Ideal) ℓ) : Prop :=
  True

def Pre_ScoresRefIdeal (m : (ℓ : Loc Cert.ScoresRefIdeal.nD Cert.ScoresRefIdeal.τ Cert.ScoresRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def quiescent_Scores [hScores : Cert.Scores.Facts] : Prop :=
  ∀ (m : (ℓ : Loc Cert.Scores.nD Cert.Scores.τ Cert.Scores.sig) → Buf (Elt Bits) ℓ) (g : Dev Cert.Scores.nD → PrngReg), Pre_Scores m →
    θ_run (Cert.Scores.defs (F := Bits)) (onTc (τ := Cert.Scores.τ) (Cert.Scores.main (F := Bits))) ⟨m, fun _ => 0, g⟩ (fun r => (∀ c : Dev Cert.Scores.nD,
      r.2.mem ((c.tc : Thread Cert.Scores.nD Cert.Scores.τ).loc Cert.Scores.main_arg0) = m ((c.tc : Thread Cert.Scores.nD Cert.Scores.τ).loc Cert.Scores.main_arg0)
      ∧ r.2.mem ((c.tc : Thread Cert.Scores.nD Cert.Scores.τ).loc Cert.Scores.main_arg1) = m ((c.tc : Thread Cert.Scores.nD Cert.Scores.τ).loc Cert.Scores.main_arg1)
      ∧ r.2.mem ((c.tc : Thread Cert.Scores.nD Cert.Scores.τ).loc Cert.Scores.main_arg2) = m ((c.tc : Thread Cert.Scores.nD Cert.Scores.τ).loc Cert.Scores.main_arg2)
      ∧ r.2.mem ((c.tc : Thread Cert.Scores.nD Cert.Scores.τ).loc Cert.Scores.main_arg3) = m ((c.tc : Thread Cert.Scores.nD Cert.Scores.τ).loc Cert.Scores.main_arg3)
      ∧ r.2.mem ((c.tc : Thread Cert.Scores.nD Cert.Scores.τ).loc Cert.Scores.main_arg4) = m ((c.tc : Thread Cert.Scores.nD Cert.Scores.τ).loc Cert.Scores.main_arg4)
      ∧ r.2.mem ((c.tc : Thread Cert.Scores.nD Cert.Scores.τ).loc Cert.Scores.main_arg5) = m ((c.tc : Thread Cert.Scores.nD Cert.Scores.τ).loc Cert.Scores.main_arg5)
      ∧ r.2.mem ((c.tc : Thread Cert.Scores.nD Cert.Scores.τ).loc Cert.Scores.main_arg6) = m ((c.tc : Thread Cert.Scores.nD Cert.Scores.τ).loc Cert.Scores.main_arg6))
      ∧ r.2.sem = fun _ => 0)

def quiescent_ScoresIdeal [hScoresIdeal : Cert.ScoresIdeal.Facts] : Prop :=
  ∀ (m : (ℓ : Loc Cert.ScoresIdeal.nD Cert.ScoresIdeal.τ Cert.ScoresIdeal.sig) → Buf (Elt Ideal) ℓ) (g : Dev Cert.ScoresIdeal.nD → PrngReg), Pre_ScoresIdeal m →
    θ_run (Cert.ScoresIdeal.defs (F := Ideal)) (onTc (τ := Cert.ScoresIdeal.τ) (Cert.ScoresIdeal.main (F := Ideal))) ⟨m, fun _ => 0, g⟩ (fun r => (∀ c : Dev Cert.ScoresIdeal.nD,
      r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
      ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
      ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2)
      ∧ r.2.mem ((c.tc : Thread Cert.ScoresIdeal.nD Cert.ScoresIdeal.τ).loc Cert.ScoresIdeal.main_arg3) = m ((c.tc : Thread Cert.ScoresIdeal.nD Cert.ScoresIdeal.τ).loc Cert.ScoresIdeal.main_arg3)
      ∧ r.2.mem ((c.tc : Thread Cert.ScoresIdeal.nD Cert.ScoresIdeal.τ).loc Cert.ScoresIdeal.main_arg4) = m ((c.tc : Thread Cert.ScoresIdeal.nD Cert.ScoresIdeal.τ).loc Cert.ScoresIdeal.main_arg4)
      ∧ r.2.mem ((c.tc : Thread Cert.ScoresIdeal.nD Cert.ScoresIdeal.τ).loc Cert.ScoresIdeal.main_arg5) = m ((c.tc : Thread Cert.ScoresIdeal.nD Cert.ScoresIdeal.τ).loc Cert.ScoresIdeal.main_arg5)
      ∧ r.2.mem ((c.tc : Thread Cert.ScoresIdeal.nD Cert.ScoresIdeal.τ).loc Cert.ScoresIdeal.main_arg6) = m ((c.tc : Thread Cert.ScoresIdeal.nD Cert.ScoresIdeal.τ).loc Cert.ScoresIdeal.main_arg6))
      ∧ r.2.sem = fun _ => 0)

def quiescent_ScoresRefIdeal [hScoresRefIdeal : Cert.ScoresRefIdeal.Facts] : Prop :=
  ∀ (m : (ℓ : Loc Cert.ScoresRefIdeal.nD Cert.ScoresRefIdeal.τ Cert.ScoresRefIdeal.sig) → Buf (Elt Ideal) ℓ) (g : Dev Cert.ScoresRefIdeal.nD → PrngReg), Pre_ScoresRefIdeal m →
    θ_run (Cert.ScoresRefIdeal.defs (F := Ideal)) (onTc (τ := Cert.ScoresRefIdeal.τ) (Cert.ScoresRefIdeal.main (F := Ideal))) ⟨m, fun _ => 0, g⟩ (fun r => (∀ c : Dev Cert.ScoresRefIdeal.nD,
      r.2.mem ((c.tc : Thread Cert.ScoresRefIdeal.nD Cert.ScoresRefIdeal.τ).loc Cert.ScoresRefIdeal.main_arg0) = m ((c.tc : Thread Cert.ScoresRefIdeal.nD Cert.ScoresRefIdeal.τ).loc Cert.ScoresRefIdeal.main_arg0)
      ∧ r.2.mem ((c.tc : Thread Cert.ScoresRefIdeal.nD Cert.ScoresRefIdeal.τ).loc Cert.ScoresRefIdeal.main_arg1) = m ((c.tc : Thread Cert.ScoresRefIdeal.nD Cert.ScoresRefIdeal.τ).loc Cert.ScoresRefIdeal.main_arg1)
      ∧ r.2.mem ((c.tc : Thread Cert.ScoresRefIdeal.nD Cert.ScoresRefIdeal.τ).loc Cert.ScoresRefIdeal.main_arg2) = m ((c.tc : Thread Cert.ScoresRefIdeal.nD Cert.ScoresRefIdeal.τ).loc Cert.ScoresRefIdeal.main_arg2)
      ∧ r.2.mem ((c.tc : Thread Cert.ScoresRefIdeal.nD Cert.ScoresRefIdeal.τ).loc Cert.ScoresRefIdeal.main_arg3) = m ((c.tc : Thread Cert.ScoresRefIdeal.nD Cert.ScoresRefIdeal.τ).loc Cert.ScoresRefIdeal.main_arg3)
      ∧ r.2.mem ((c.tc : Thread Cert.ScoresRefIdeal.nD Cert.ScoresRefIdeal.τ).loc Cert.ScoresRefIdeal.main_arg4) = m ((c.tc : Thread Cert.ScoresRefIdeal.nD Cert.ScoresRefIdeal.τ).loc Cert.ScoresRefIdeal.main_arg4)
      ∧ r.2.mem ((c.tc : Thread Cert.ScoresRefIdeal.nD Cert.ScoresRefIdeal.τ).loc Cert.ScoresRefIdeal.main_arg5) = m ((c.tc : Thread Cert.ScoresRefIdeal.nD Cert.ScoresRefIdeal.τ).loc Cert.ScoresRefIdeal.main_arg5)
      ∧ r.2.mem ((c.tc : Thread Cert.ScoresRefIdeal.nD Cert.ScoresRefIdeal.τ).loc Cert.ScoresRefIdeal.main_arg6) = m ((c.tc : Thread Cert.ScoresRefIdeal.nD Cert.ScoresRefIdeal.τ).loc Cert.ScoresRefIdeal.main_arg6))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def preserves_Scores_ScoresIdeal : Prop :=
  True

def algebraic_ScoresIdeal_ScoresRefIdeal [hScoresIdeal : Cert.ScoresIdeal.Facts] [hScoresRefIdeal : Cert.ScoresRefIdeal.Facts] : Prop :=
  ∀ (m : (ℓ : Loc Cert.ScoresIdeal.nD Cert.ScoresIdeal.τ Cert.ScoresIdeal.sig) → Buf (Elt Ideal) ℓ) (g : Dev Cert.ScoresIdeal.nD → PrngReg)
    (m' : (ℓ : Loc Cert.ScoresRefIdeal.nD Cert.ScoresRefIdeal.τ Cert.ScoresRefIdeal.sig) → Buf (Elt Ideal) ℓ) (g' : Dev Cert.ScoresRefIdeal.nD → PrngReg), Pre_ScoresIdeal m →
    (∀ c : Dev Cert.ScoresIdeal.nD,
      m' ((c.tc : Thread Cert.ScoresRefIdeal.nD Cert.ScoresRefIdeal.τ).loc Cert.ScoresRefIdeal.main_arg0) = m ((c.tc : Thread Cert.ScoresIdeal.nD Cert.ScoresIdeal.τ).loc Cert.ScoresIdeal.main_arg0)
      ∧ m' ((c.tc : Thread Cert.ScoresRefIdeal.nD Cert.ScoresRefIdeal.τ).loc Cert.ScoresRefIdeal.main_arg1) = m ((c.tc : Thread Cert.ScoresIdeal.nD Cert.ScoresIdeal.τ).loc Cert.ScoresIdeal.main_arg1)
      ∧ m' ((c.tc : Thread Cert.ScoresRefIdeal.nD Cert.ScoresRefIdeal.τ).loc Cert.ScoresRefIdeal.main_arg2) = m ((c.tc : Thread Cert.ScoresIdeal.nD Cert.ScoresIdeal.τ).loc Cert.ScoresIdeal.main_arg2)
      ∧ m' ((c.tc : Thread Cert.ScoresRefIdeal.nD Cert.ScoresRefIdeal.τ).loc Cert.ScoresRefIdeal.main_arg3) = m ((c.tc : Thread Cert.ScoresIdeal.nD Cert.ScoresIdeal.τ).loc Cert.ScoresIdeal.main_arg3)
      ∧ m' ((c.tc : Thread Cert.ScoresRefIdeal.nD Cert.ScoresRefIdeal.τ).loc Cert.ScoresRefIdeal.main_arg4) = m ((c.tc : Thread Cert.ScoresIdeal.nD Cert.ScoresIdeal.τ).loc Cert.ScoresIdeal.main_arg4)
      ∧ m' ((c.tc : Thread Cert.ScoresRefIdeal.nD Cert.ScoresRefIdeal.τ).loc Cert.ScoresRefIdeal.main_arg5) = m ((c.tc : Thread Cert.ScoresIdeal.nD Cert.ScoresIdeal.τ).loc Cert.ScoresIdeal.main_arg5)
      ∧ m' ((c.tc : Thread Cert.ScoresRefIdeal.nD Cert.ScoresRefIdeal.τ).loc Cert.ScoresRefIdeal.main_arg6) = m ((c.tc : Thread Cert.ScoresIdeal.nD Cert.ScoresIdeal.τ).loc Cert.ScoresIdeal.main_arg6)) →
    ∃ (v0 : (c : Dev Cert.ScoresIdeal.nD) → Buf (Elt Ideal) ((c.tc : Thread Cert.ScoresIdeal.nD Cert.ScoresIdeal.τ).loc Cert.ScoresIdeal.main_v6_0)) (v1 : (c : Dev Cert.ScoresIdeal.nD) → Buf (Elt Ideal) ((c.tc : Thread Cert.ScoresIdeal.nD Cert.ScoresIdeal.τ).loc Cert.ScoresIdeal.main_v6_1)),
      θ_run (Cert.ScoresIdeal.defs (F := Ideal)) (onTc (τ := Cert.ScoresIdeal.τ) (Cert.ScoresIdeal.main (F := Ideal))) ⟨m, fun _ => 0, g⟩ (fun r => ∀ c : Dev Cert.ScoresIdeal.nD,
          r.2.mem ((c.tc : Thread Cert.ScoresIdeal.nD Cert.ScoresIdeal.τ).loc Cert.ScoresIdeal.main_v6_0) = v0 c
          ∧ r.2.mem ((c.tc : Thread Cert.ScoresIdeal.nD Cert.ScoresIdeal.τ).loc Cert.ScoresIdeal.main_v6_1) = v1 c
          ∧ r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
          ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
          ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2)
          ∧ r.2.mem ((c.tc : Thread Cert.ScoresIdeal.nD Cert.ScoresIdeal.τ).loc Cert.ScoresIdeal.main_arg3) = m ((c.tc : Thread Cert.ScoresIdeal.nD Cert.ScoresIdeal.τ).loc Cert.ScoresIdeal.main_arg3)
          ∧ r.2.mem ((c.tc : Thread Cert.ScoresIdeal.nD Cert.ScoresIdeal.τ).loc Cert.ScoresIdeal.main_arg4) = m ((c.tc : Thread Cert.ScoresIdeal.nD Cert.ScoresIdeal.τ).loc Cert.ScoresIdeal.main_arg4)
          ∧ r.2.mem ((c.tc : Thread Cert.ScoresIdeal.nD Cert.ScoresIdeal.τ).loc Cert.ScoresIdeal.main_arg5) = m ((c.tc : Thread Cert.ScoresIdeal.nD Cert.ScoresIdeal.τ).loc Cert.ScoresIdeal.main_arg5)
          ∧ r.2.mem ((c.tc : Thread Cert.ScoresIdeal.nD Cert.ScoresIdeal.τ).loc Cert.ScoresIdeal.main_arg6) = m ((c.tc : Thread Cert.ScoresIdeal.nD Cert.ScoresIdeal.τ).loc Cert.ScoresIdeal.main_arg6))
      ∧ θ_run (Cert.ScoresRefIdeal.defs (F := Ideal)) (onTc (τ := Cert.ScoresRefIdeal.τ) (Cert.ScoresRefIdeal.main (F := Ideal))) ⟨m', fun _ => 0, g'⟩ (fun r => ∀ c : Dev Cert.ScoresRefIdeal.nD,
          r.2.mem ((c.tc : Thread Cert.ScoresRefIdeal.nD Cert.ScoresRefIdeal.τ).loc Cert.ScoresRefIdeal.main_v80) = v0 c
          ∧ r.2.mem ((c.tc : Thread Cert.ScoresRefIdeal.nD Cert.ScoresRefIdeal.τ).loc Cert.ScoresRefIdeal.main_v88) = v1 c
          ∧ r.2.mem ((c.tc : Thread Cert.ScoresRefIdeal.nD Cert.ScoresRefIdeal.τ).loc Cert.ScoresRefIdeal.main_arg0) = m' ((c.tc : Thread Cert.ScoresRefIdeal.nD Cert.ScoresRefIdeal.τ).loc Cert.ScoresRefIdeal.main_arg0)
          ∧ r.2.mem ((c.tc : Thread Cert.ScoresRefIdeal.nD Cert.ScoresRefIdeal.τ).loc Cert.ScoresRefIdeal.main_arg1) = m' ((c.tc : Thread Cert.ScoresRefIdeal.nD Cert.ScoresRefIdeal.τ).loc Cert.ScoresRefIdeal.main_arg1)
          ∧ r.2.mem ((c.tc : Thread Cert.ScoresRefIdeal.nD Cert.ScoresRefIdeal.τ).loc Cert.ScoresRefIdeal.main_arg2) = m' ((c.tc : Thread Cert.ScoresRefIdeal.nD Cert.ScoresRefIdeal.τ).loc Cert.ScoresRefIdeal.main_arg2)
          ∧ r.2.mem ((c.tc : Thread Cert.ScoresRefIdeal.nD Cert.ScoresRefIdeal.τ).loc Cert.ScoresRefIdeal.main_arg3) = m' ((c.tc : Thread Cert.ScoresRefIdeal.nD Cert.ScoresRefIdeal.τ).loc Cert.ScoresRefIdeal.main_arg3)
          ∧ r.2.mem ((c.tc : Thread Cert.ScoresRefIdeal.nD Cert.ScoresRefIdeal.τ).loc Cert.ScoresRefIdeal.main_arg4) = m' ((c.tc : Thread Cert.ScoresRefIdeal.nD Cert.ScoresRefIdeal.τ).loc Cert.ScoresRefIdeal.main_arg4)
          ∧ r.2.mem ((c.tc : Thread Cert.ScoresRefIdeal.nD Cert.ScoresRefIdeal.τ).loc Cert.ScoresRefIdeal.main_arg5) = m' ((c.tc : Thread Cert.ScoresRefIdeal.nD Cert.ScoresRefIdeal.τ).loc Cert.ScoresRefIdeal.main_arg5)
          ∧ r.2.mem ((c.tc : Thread Cert.ScoresRefIdeal.nD Cert.ScoresRefIdeal.τ).loc Cert.ScoresRefIdeal.main_arg6) = m' ((c.tc : Thread Cert.ScoresRefIdeal.nD Cert.ScoresRefIdeal.τ).loc Cert.ScoresRefIdeal.main_arg6))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v6)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v6) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v11) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def Claim : Prop :=
  ∃ (hScores : Cert.Scores.Facts) (hScoresIdeal : Cert.ScoresIdeal.Facts) (hScoresRefIdeal : Cert.ScoresRefIdeal.Facts) (hOut : Cert.Out.Facts) (hOutIdeal : Cert.OutIdeal.Facts) (hOutRefIdeal : Cert.OutRefIdeal.Facts),
    quiescent_Scores (hScores := hScores)
    ∧ quiescent_ScoresIdeal (hScoresIdeal := hScoresIdeal)
    ∧ quiescent_ScoresRefIdeal (hScoresRefIdeal := hScoresRefIdeal)
    ∧ quiescent_Out (hOut := hOut)
    ∧ quiescent_OutIdeal (hOutIdeal := hOutIdeal)
    ∧ quiescent_OutRefIdeal (hOutRefIdeal := hOutRefIdeal)
    ∧ preserves_Scores_ScoresIdeal
    ∧ algebraic_ScoresIdeal_ScoresRefIdeal (hScoresIdeal := hScoresIdeal) (hScoresRefIdeal := hScoresRefIdeal)
    ∧ preserves_Out_OutIdeal
    ∧ algebraic_OutIdeal_OutRefIdeal (hOutIdeal := hOutIdeal) (hOutRefIdeal := hOutRefIdeal)
-- ==== Scores.lean ====
abbrev S72x1x1536 : Shape := ⟨3, ![72, 1, 1536]⟩
abbrev S72x1x4x128 : Shape := ⟨4, ![72, 1, 4, 128]⟩
abbrev S72x2048x4x128 : Shape := ⟨4, ![72, 2048, 4, 128]⟩
abbrev S72x2048x4 : Shape := ⟨3, ![72, 2048, 4]⟩
abbrev S72x2048x4x3 : Shape := ⟨4, ![72, 2048, 4, 3]⟩
abbrev S72 : Shape := ⟨1, ![72]⟩
abbrev S72x1536 : Shape := ⟨2, ![72, 1536]⟩
abbrev S72x4x128 : Shape := ⟨3, ![72, 4, 128]⟩
abbrev S72x8192x128 : Shape := ⟨3, ![72, 8192, 128]⟩
abbrev S72x4x2048 : Shape := ⟨3, ![72, 4, 2048]⟩
abbrev S72x3x4x2048 : Shape := ⟨4, ![72, 3, 4, 2048]⟩
abbrev S72x4x16x4x128 : Shape := ⟨5, ![72, 4, 16, 4, 128]⟩
abbrev S72x16x128 : Shape := ⟨3, ![72, 16, 128]⟩
abbrev S1x4x128 : Shape := ⟨3, ![1, 4, 128]⟩
abbrev S1x8192x128 : Shape := ⟨3, ![1, 8192, 128]⟩
abbrev S1x4x2048 : Shape := ⟨3, ![1, 4, 2048]⟩
abbrev S1x3x4x2048 : Shape := ⟨4, ![1, 3, 4, 2048]⟩
abbrev S1x4x16x4x128 : Shape := ⟨5, ![1, 4, 16, 4, 128]⟩
abbrev S1x16x128 : Shape := ⟨3, ![1, 16, 128]⟩
abbrev S1152x128 : Shape := ⟨2, ![1152, 128]⟩
abbrev S16x2048 : Shape := ⟨2, ![16, 2048]⟩
abbrev S8x128 : Shape := ⟨2, ![8, 128]⟩
abbrev S1 : Shape := ⟨1, ![1]⟩
abbrev S16x128 : Shape := ⟨2, ![16, 128]⟩
abbrev S16x256 : Shape := ⟨2, ![16, 256]⟩
abbrev S32x256 : Shape := ⟨2, ![32, 256]⟩
abbrev S4x128 : Shape := ⟨2, ![4, 128]⟩
abbrev S1x128 : Shape := ⟨2, ![1, 128]⟩
abbrev S16 : Shape := ⟨1, ![16]⟩
abbrev S16x1 : Shape := ⟨2, ![16, 1]⟩
abbrev S1x1024x128 : Shape := ⟨3, ![1, 1024, 128]⟩
abbrev S1024x128 : Shape := ⟨2, ![1024, 128]⟩
abbrev S1024x256 : Shape := ⟨2, ![1024, 256]⟩
abbrev S32x1024 : Shape := ⟨2, ![32, 1024]⟩
abbrev S16x128x1 : Shape := ⟨3, ![16, 128, 1]⟩
abbrev S1x1x4x128 : Shape := ⟨4, ![1, 1, 4, 128]⟩
abbrev S3x128 : Shape := ⟨2, ![3, 128]⟩
abbrev S1x1x1x3x128 : Shape := ⟨5, ![1, 1, 1, 3, 128]⟩
abbrev S1x1x1x1x128 : Shape := ⟨5, ![1, 1, 1, 1, 128]⟩

abbrev nBuf : Space → Nat
  | .hbm => 14
  | .vmem => 17
  | .smem => 1
  | _ => 0

abbrev bufTy : (tb : Table) → Fin (tcTables nBuf tb) → BufTy
  | .hbm, ⟨0, _⟩ => ⟨S72x1x1536, .bf16⟩
  | .hbm, ⟨1, _⟩ => ⟨S72x1x4x128, .bf16⟩
  | .hbm, ⟨2, _⟩ => ⟨S72x1x4x128, .bf16⟩
  | .hbm, ⟨3, _⟩ => ⟨S72x2048x4x128, .fp8e4m3⟩
  | .hbm, ⟨4, _⟩ => ⟨S72x2048x4, .f32⟩
  | .hbm, ⟨5, _⟩ => ⟨S72x2048x4x3, .i8⟩
  | .hbm, ⟨6, _⟩ => ⟨S72x1536, .bf16⟩
  | .hbm, ⟨7, _⟩ => ⟨S72x4x128, .bf16⟩
  | .hbm, ⟨8, _⟩ => ⟨S72x4x128, .bf16⟩
  | .hbm, ⟨9, _⟩ => ⟨S72x8192x128, .fp8e4m3⟩
  | .hbm, ⟨10, _⟩ => ⟨S72x4x2048, .f32⟩
  | .hbm, ⟨11, _⟩ => ⟨S72x3x4x2048, .i8⟩
  | .hbm, ⟨12, _⟩ => ⟨S72x4x16x4x128, .f32⟩
  | .hbm, ⟨13, _⟩ => ⟨S72x16x128, .f32⟩
  | .local _ .vmem, ⟨0, _⟩ => ⟨S72x1536, .bf16⟩
  | .local _ .vmem, ⟨1, _⟩ => ⟨S1x4x128, .bf16⟩
  | .local _ .vmem, ⟨2, _⟩ => ⟨S1x4x128, .bf16⟩
  | .local _ .vmem, ⟨3, _⟩ => ⟨S1x4x128, .bf16⟩
  | .local _ .vmem, ⟨4, _⟩ => ⟨S1x4x128, .bf16⟩
  | .local _ .vmem, ⟨5, _⟩ => ⟨S1x8192x128, .fp8e4m3⟩
  | .local _ .vmem, ⟨6, _⟩ => ⟨S1x8192x128, .fp8e4m3⟩
  | .local _ .vmem, ⟨7, _⟩ => ⟨S1x4x2048, .f32⟩
  | .local _ .vmem, ⟨8, _⟩ => ⟨S1x4x2048, .f32⟩
  | .local _ .vmem, ⟨9, _⟩ => ⟨S1x3x4x2048, .i8⟩
  | .local _ .vmem, ⟨10, _⟩ => ⟨S1x3x4x2048, .i8⟩
  | .local _ .vmem, ⟨11, _⟩ => ⟨S1x4x16x4x128, .f32⟩
  | .local _ .vmem, ⟨12, _⟩ => ⟨S1x4x16x4x128, .f32⟩
  | .local _ .vmem, ⟨13, _⟩ => ⟨S1x16x128, .f32⟩
  | .local _ .vmem, ⟨14, _⟩ => ⟨S1x16x128, .f32⟩
  | .local _ .vmem, ⟨15, _⟩ => ⟨S1152x128, .f32⟩
  | .local _ .vmem, ⟨16, _⟩ => ⟨S16x2048, .f32⟩
  | .local _ .smem, ⟨0, _⟩ => ⟨S72, .i32⟩
  | _, _ => ⟨S72x1x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_arg6 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![72], ![false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v3 : Index := Scalar.indexCast arg0
  ![v3.toNat]
def k0_mult1 (i : grid0.Coords) : BitVec 32 :=
  let arg0 : BitVec 32 := BitVec.ofNat 32 (i 0).val
  let c16_i32 : BitVec 32 := 16#32
  let v5 : BitVec 32 := Scalar.muli arg0 c16_i32
  v5
def k0_off2 (i : grid0.Coords) : Fin 2 → Nat :=
  let arg0 : BitVec 32 := BitVec.ofNat 32 (i 0).val
  let c16_i32 : BitVec 32 := 16#32
  let v5 : BitVec 32 := Scalar.muli arg0 c16_i32
  let v6 : BitVec 32 := v5
  let v7 : Index := Scalar.indexCast v6
  let c0 : Index := 0#32
  ![v7.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S72x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8192x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x3x4x2048 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x16x4x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ScoresRefIdeal.lean ====
abbrev S72x1x1536 : Shape := ⟨3, ![72, 1, 1536]⟩
abbrev S72x1x4x128 : Shape := ⟨4, ![72, 1, 4, 128]⟩
abbrev S72x2048x4x128 : Shape := ⟨4, ![72, 2048, 4, 128]⟩
abbrev S72x2048x4 : Shape := ⟨3, ![72, 2048, 4]⟩
abbrev S72x2048x4x3 : Shape := ⟨4, ![72, 2048, 4, 3]⟩
abbrev S72 : Shape := ⟨1, ![72]⟩
abbrev S72x4x3x128 : Shape := ⟨4, ![72, 4, 3, 128]⟩
abbrev S_ : Shape := ⟨0, ![]⟩
abbrev S72x4x1x128 : Shape := ⟨4, ![72, 4, 1, 128]⟩
abbrev S72x4x4x128 : Shape := ⟨4, ![72, 4, 4, 128]⟩
abbrev S72x4x4x2048 : Shape := ⟨4, ![72, 4, 4, 2048]⟩
abbrev S72x4x2048 : Shape := ⟨3, ![72, 4, 2048]⟩
abbrev S72x4x1x2048 : Shape := ⟨4, ![72, 4, 1, 2048]⟩
abbrev S72x1x1x1 : Shape := ⟨4, ![72, 1, 1, 1]⟩
abbrev S72x4x128 : Shape := ⟨3, ![72, 4, 128]⟩
abbrev S72x4x4 : Shape := ⟨3, ![72, 4, 4]⟩
abbrev S72x4x4x1 : Shape := ⟨4, ![72, 4, 4, 1]⟩
abbrev S72x2048x4x1 : Shape := ⟨4, ![72, 2048, 4, 1]⟩
abbrev S72x4x3x2048 : Shape := ⟨4, ![72, 4, 3, 2048]⟩
abbrev S72x4x4x16x128 : Shape := ⟨5, ![72, 4, 4, 16, 128]⟩
abbrev S72x4x16x4x128 : Shape := ⟨5, ![72, 4, 16, 4, 128]⟩
abbrev S72x16x128 : Shape := ⟨3, ![72, 16, 128]⟩

abbrev nBuf : Space → Nat
  | .hbm => 116
  | .vmem => 2
  | .smem => 0
  | _ => 0

abbrev bufTy : (tb : Table) → Fin (tcTables nBuf tb) → BufTy
  | .hbm, ⟨0, _⟩ => ⟨S72x1x1536, .bf16⟩
  | .hbm, ⟨1, _⟩ => ⟨S72x1x4x128, .bf16⟩
  | .hbm, ⟨2, _⟩ => ⟨S72x1x4x128, .bf16⟩
  | .hbm, ⟨3, _⟩ => ⟨S72x2048x4x128, .fp8e4m3⟩
  | .hbm, ⟨4, _⟩ => ⟨S72x2048x4, .f32⟩
  | .hbm, ⟨5, _⟩ => ⟨S72x2048x4x3, .i8⟩
  | .hbm, ⟨6, _⟩ => ⟨S72, .i32⟩
  | .hbm, ⟨7, _⟩ => ⟨S72x2048x4x128, .bf16⟩
  | .hbm, ⟨8, _⟩ => ⟨S72x4x3x128, .bf16⟩
  | .hbm, ⟨9, _⟩ => ⟨S72x4x3x128, .f32⟩
  | .hbm, ⟨10, _⟩ => ⟨S_, .f32⟩
  | .hbm, ⟨11, _⟩ => ⟨S72x4x1x128, .f32⟩
  | .hbm, ⟨12, _⟩ => ⟨S72x4x4x128, .f32⟩
  | .hbm, ⟨13, _⟩ => ⟨S72x4x4x128, .bf16⟩
  | .hbm, ⟨14, _⟩ => ⟨S72x4x4x2048, .f32⟩
  | .hbm, ⟨15, _⟩ => ⟨S72x4x2048, .f32⟩
  | .hbm, ⟨16, _⟩ => ⟨S_, .f32⟩
  | .hbm, ⟨17, _⟩ => ⟨S72x4x2048, .f32⟩
  | .hbm, ⟨18, _⟩ => ⟨S72x4x2048, .f32⟩
  | .hbm, ⟨19, _⟩ => ⟨S72x4x1x2048, .f32⟩
  | .hbm, ⟨20, _⟩ => ⟨S72x4x4x2048, .f32⟩
  | .hbm, ⟨21, _⟩ => ⟨S72x4x4x2048, .f32⟩
  | .hbm, ⟨22, _⟩ => ⟨S72x4x4x2048, .i32⟩
  | .hbm, ⟨23, _⟩ => ⟨S72x1x1x1, .i32⟩
  | .hbm, ⟨24, _⟩ => ⟨S72x4x4x2048, .i32⟩
  | .hbm, ⟨25, _⟩ => ⟨S72x4x4x2048, .i1⟩
  | .hbm, ⟨26, _⟩ => ⟨S_, .f32⟩
  | .hbm, ⟨27, _⟩ => ⟨S_, .f32⟩
  | .hbm, ⟨28, _⟩ => ⟨S72x4x4x2048, .f32⟩
  | .hbm, ⟨29, _⟩ => ⟨S72x4x4x2048, .f32⟩
  | .hbm, ⟨30, _⟩ => ⟨S72x4x128, .bf16⟩
  | .hbm, ⟨31, _⟩ => ⟨S72x4x4, .f32⟩
  | .hbm, ⟨32, _⟩ => ⟨S_, .f32⟩
  | .hbm, ⟨33, _⟩ => ⟨S72x4x4, .f32⟩
  | .hbm, ⟨34, _⟩ => ⟨S72x4x4, .f32⟩
  | .hbm, ⟨35, _⟩ => ⟨S_, .f32⟩
  | .hbm, ⟨36, _⟩ => ⟨S72x4x4, .f32⟩
  | .hbm, ⟨37, _⟩ => ⟨S72x4x4, .f32⟩
  | .hbm, ⟨38, _⟩ => ⟨S72x4x4x1, .f32⟩
  | .hbm, ⟨39, _⟩ => ⟨S72x4x4x2048, .f32⟩
  | .hbm, ⟨40, _⟩ => ⟨S72x4x4x2048, .f32⟩
  | .hbm, ⟨41, _⟩ => ⟨S72x4x4x2048, .f32⟩
  | .hbm, ⟨42, _⟩ => ⟨S72x4x4, .f32⟩
  | .hbm, ⟨43, _⟩ => ⟨S72x4x4, .f32⟩
  | .hbm, ⟨44, _⟩ => ⟨S_, .f32⟩
  | .hbm, ⟨45, _⟩ => ⟨S72x4x4, .f32⟩
  | .hbm, ⟨46, _⟩ => ⟨S72x4x4, .f32⟩
  | .hbm, ⟨47, _⟩ => ⟨S72x4x4x1, .f32⟩
  | .hbm, ⟨48, _⟩ => ⟨S72x4x4x2048, .f32⟩
  | .hbm, ⟨49, _⟩ => ⟨S72x4x4x2048, .f32⟩
  | .hbm, ⟨50, _⟩ => ⟨S72x4x4, .f32⟩
  | .hbm, ⟨51, _⟩ => ⟨S72x2048x4x3, .i32⟩
  | .hbm, ⟨52, _⟩ => ⟨S72x2048x4x1, .i32⟩
  | .hbm, ⟨53, _⟩ => ⟨S72x2048x4, .i32⟩
  | .hbm, ⟨54, _⟩ => ⟨S72x2048x4x1, .i32⟩
  | .hbm, ⟨55, _⟩ => ⟨S72x2048x4, .i32⟩
  | .hbm, ⟨56, _⟩ => ⟨S_, .i32⟩
  | .hbm, ⟨57, _⟩ => ⟨S72x2048x4, .i32⟩
  | .hbm, ⟨58, _⟩ => ⟨S72x2048x4, .i32⟩
  | .hbm, ⟨59, _⟩ => ⟨S_, .i32⟩
  | .hbm, ⟨60, _⟩ => ⟨S72x2048x4, .i32⟩
  | .hbm, ⟨61, _⟩ => ⟨S72x2048x4, .i32⟩
  | .hbm, ⟨62, _⟩ => ⟨S72x2048x4, .i32⟩
  | .hbm, ⟨63, _⟩ => ⟨S72x2048x4x1, .i32⟩
  | .hbm, ⟨64, _⟩ => ⟨S72x2048x4, .i32⟩
  | .hbm, ⟨65, _⟩ => ⟨S_, .i32⟩
  | .hbm, ⟨66, _⟩ => ⟨S72x2048x4, .i32⟩
  | .hbm, ⟨67, _⟩ => ⟨S72x2048x4, .i32⟩
  | .hbm, ⟨68, _⟩ => ⟨S72x2048x4x1, .i32⟩
  | .hbm, ⟨69, _⟩ => ⟨S72x2048x4, .i32⟩
  | .hbm, ⟨70, _⟩ => ⟨S_, .i32⟩
  | .hbm, ⟨71, _⟩ => ⟨S72x2048x4, .i32⟩
  | .hbm, ⟨72, _⟩ => ⟨S72x2048x4, .i32⟩
  | .hbm, ⟨73, _⟩ => ⟨S72x2048x4, .i32⟩
  | .hbm, ⟨74, _⟩ => ⟨S_, .i32⟩
  | .hbm, ⟨75, _⟩ => ⟨S72x2048x4, .i32⟩
  | .hbm, ⟨76, _⟩ => ⟨S72x2048x4, .i32⟩
  | .hbm, ⟨77, _⟩ => ⟨S_, .i32⟩
  | .hbm, ⟨78, _⟩ => ⟨S72x2048x4, .i32⟩
  | .hbm, ⟨79, _⟩ => ⟨S72x2048x4, .i32⟩
  | .hbm, ⟨80, _⟩ => ⟨S_, .i32⟩
  | .hbm, ⟨81, _⟩ => ⟨S72x2048x4, .i32⟩
  | .hbm, ⟨82, _⟩ => ⟨S72x2048x4, .i32⟩
  | .hbm, ⟨83, _⟩ => ⟨S72x2048x4, .i32⟩
  | .hbm, ⟨84, _⟩ => ⟨S_, .i32⟩
  | .hbm, ⟨85, _⟩ => ⟨S72x2048x4, .i32⟩
  | .hbm, ⟨86, _⟩ => ⟨S72x2048x4, .i32⟩
  | .hbm, ⟨87, _⟩ => ⟨S_, .i32⟩
  | .hbm, ⟨88, _⟩ => ⟨S72x2048x4, .i32⟩
  | .hbm, ⟨89, _⟩ => ⟨S72x2048x4, .i32⟩
  | .hbm, ⟨90, _⟩ => ⟨S_, .i32⟩
  | .hbm, ⟨91, _⟩ => ⟨S72x2048x4, .i32⟩
  | .hbm, ⟨92, _⟩ => ⟨S72x2048x4, .i32⟩
  | .hbm, ⟨93, _⟩ => ⟨S72x2048x4, .i32⟩
  | .hbm, ⟨94, _⟩ => ⟨S_, .i32⟩
  | .hbm, ⟨95, _⟩ => ⟨S72x2048x4, .i32⟩
  | .hbm, ⟨96, _⟩ => ⟨S72x2048x4, .i32⟩
  | .hbm, ⟨97, _⟩ => ⟨S_, .i32⟩
  | .hbm, ⟨98, _⟩ => ⟨S72x2048x4, .i32⟩
  | .hbm, ⟨99, _⟩ => ⟨S72x2048x4, .i32⟩
  | .hbm, ⟨100, _⟩ => ⟨S72x2048x4, .i32⟩
  | .hbm, ⟨101, _⟩ => ⟨S72x4x2048, .i32⟩
  | .hbm, ⟨102, _⟩ => ⟨S72x4x2048, .f32⟩
  | .hbm, ⟨103, _⟩ => ⟨S72x4x3x2048, .f32⟩
  | .hbm, ⟨104, _⟩ => ⟨S72x4x1x2048, .f32⟩
  | .hbm, ⟨105, _⟩ => ⟨S72x4x4x2048, .f32⟩
  | .hbm, ⟨106, _⟩ => ⟨S72x4x4x16x128, .f32⟩
  | .hbm, ⟨107, _⟩ => ⟨S72x4x16x4x128, .f32⟩
  | .hbm, ⟨108, _⟩ => ⟨S72x4x4x1, .f32⟩
  | .hbm, ⟨109, _⟩ => ⟨S72x4x128, .bf16⟩
  | .hbm, ⟨110, _⟩ => ⟨S72x4x128, .f32⟩
  | .hbm, ⟨111, _⟩ => ⟨S72x4x1x128, .f32⟩
  | .hbm, ⟨112, _⟩ => ⟨S72x4x4x128, .f32⟩
  | .hbm, ⟨113, _⟩ => ⟨S72x4x4x128, .f32⟩
  | .hbm, ⟨114, _⟩ => ⟨S72x4x4x128, .f32⟩
  | .hbm, ⟨115, _⟩ => ⟨S72x16x128, .f32⟩
  | .local _ .vmem, ⟨0, _⟩ => ⟨S72x2048x4x128, .fp8e4m3⟩
  | .local _ .vmem, ⟨1, _⟩ => ⟨S72x2048x4x128, .bf16⟩
  | _, _ => ⟨S72x1x1536, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c : Ref sig .tc := ⟨.hbm, 56, rfl⟩
abbrev main_v41 : Ref sig .tc := ⟨.hbm, 57, rfl⟩
abbrev main_v42 : Ref sig .tc := ⟨.hbm, 58, rfl⟩
abbrev main_c_5 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_6 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_7 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c_8 : Ref sig .tc := ⟨.hbm, 74, rfl⟩
abbrev main_v55 : Ref sig .tc := ⟨.hbm, 75, rfl⟩
abbrev main_v56 : Ref sig .tc := ⟨.hbm, 76, rfl⟩
abbrev main_c_9 : Ref sig .tc := ⟨.hbm, 77, rfl⟩
abbrev main_v57 : Ref sig .tc := ⟨.hbm, 78, rfl⟩
abbrev main_v58 : Ref sig .tc := ⟨.hbm, 79, rfl⟩
abbrev main_c_10 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_c_11 : Ref sig .tc := ⟨.hbm, 84, rfl⟩
abbrev main_v62 : Ref sig .tc := ⟨.hbm, 85, rfl⟩
abbrev main_v63 : Ref sig .tc := ⟨.hbm, 86, rfl⟩
abbrev main_c_12 : Ref sig .tc := ⟨.hbm, 87, rfl⟩
abbrev main_v64 : Ref sig .tc := ⟨.hbm, 88, rfl⟩
abbrev main_v65 : Ref sig .tc := ⟨.hbm, 89, rfl⟩
abbrev main_c_13 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_14 : Ref sig .tc := ⟨.hbm, 94, rfl⟩
abbrev main_v69 : Ref sig .tc := ⟨.hbm, 95, rfl⟩
abbrev main_v70 : Ref sig .tc := ⟨.hbm, 96, rfl⟩
abbrev main_c_15 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S72x2048x4x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S72x2048x4x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Out.lean ====
abbrev S7077888 : Shape := ⟨1, ![7077888]⟩
abbrev S4x2x4096x64 : Shape := ⟨4, ![4, 2, 4096, 64]⟩
abbrev S72x16x128 : Shape := ⟨3, ![72, 16, 128]⟩
abbrev S72x4x4x128 : Shape := ⟨4, ![72, 4, 4, 128]⟩
abbrev S72x4x3x128 : Shape := ⟨4, ![72, 4, 3, 128]⟩
abbrev S864x128 : Shape := ⟨2, ![864, 128]⟩
abbrev S2x4x64x4096 : Shape := ⟨4, ![2, 4, 64, 4096]⟩
abbrev S2x256x4096 : Shape := ⟨3, ![2, 256, 4096]⟩
abbrev S864x64x128 : Shape := ⟨3, ![864, 64, 128]⟩
abbrev S96x64x128 : Shape := ⟨3, ![96, 64, 128]⟩
abbrev S96x128 : Shape := ⟨2, ![96, 128]⟩
abbrev S96x256 : Shape := ⟨2, ![96, 256]⟩
abbrev S96x1x128 : Shape := ⟨3, ![96, 1, 128]⟩
abbrev S1x256x256 : Shape := ⟨3, ![1, 256, 256]⟩
abbrev S256x256 : Shape := ⟨2, ![256, 256]⟩
abbrev S96x64 : Shape := ⟨2, ![96, 64]⟩

abbrev nBuf : Space → Nat
  | .hbm => 10
  | .vmem => 7
  | .smem => 0
  | _ => 0

abbrev bufTy : (tb : Table) → Fin (tcTables nBuf tb) → BufTy
  | .hbm, ⟨0, _⟩ => ⟨S7077888, .f32⟩
  | .hbm, ⟨1, _⟩ => ⟨S4x2x4096x64, .bf16⟩
  | .hbm, ⟨2, _⟩ => ⟨S72x16x128, .f32⟩
  | .hbm, ⟨3, _⟩ => ⟨S72x4x4x128, .f32⟩
  | .hbm, ⟨4, _⟩ => ⟨S72x4x3x128, .f32⟩
  | .hbm, ⟨5, _⟩ => ⟨S864x128, .f32⟩
  | .hbm, ⟨6, _⟩ => ⟨S2x4x64x4096, .bf16⟩
  | .hbm, ⟨7, _⟩ => ⟨S2x256x4096, .bf16⟩
  | .hbm, ⟨8, _⟩ => ⟨S864x64x128, .f32⟩
  | .hbm, ⟨9, _⟩ => ⟨S864x128, .bf16⟩
  | .local _ .vmem, ⟨0, _⟩ => ⟨S96x64x128, .f32⟩
  | .local _ .vmem, ⟨1, _⟩ => ⟨S96x64x128, .f32⟩
  | .local _ .vmem, ⟨2, _⟩ => ⟨S2x256x4096, .bf16⟩
  | .local _ .vmem, ⟨3, _⟩ => ⟨S96x128, .f32⟩
  | .local _ .vmem, ⟨4, _⟩ => ⟨S96x128, .f32⟩
  | .local _ .vmem, ⟨5, _⟩ => ⟨S96x128, .bf16⟩
  | .local _ .vmem, ⟨6, _⟩ => ⟨S96x128, .bf16⟩
  | _, _ => ⟨S7077888, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![9], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S96x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S96x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S96x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutRefIdeal.lean ====
abbrev S7077888 : Shape := ⟨1, ![7077888]⟩
abbrev S4x2x4096x64 : Shape := ⟨4, ![4, 2, 4096, 64]⟩
abbrev S72x16x128 : Shape := ⟨3, ![72, 16, 128]⟩
abbrev S72x4x3x32x2x128 : Shape := ⟨6, ![72, 4, 3, 32, 2, 128]⟩
abbrev S72x4x3x2x32x128 : Shape := ⟨6, ![72, 4, 3, 2, 32, 128]⟩
abbrev S72x4x3x2x4096 : Shape := ⟨5, ![72, 4, 3, 2, 4096]⟩
abbrev S4x2x64x72x3 : Shape := ⟨5, ![4, 2, 64, 72, 3]⟩
abbrev S72x4x3x2x64 : Shape := ⟨5, ![72, 4, 3, 2, 64]⟩
abbrev S72x4x3x128 : Shape := ⟨4, ![72, 4, 3, 128]⟩
abbrev S72x4x4x128 : Shape := ⟨4, ![72, 4, 4, 128]⟩
abbrev S864x128 : Shape := ⟨2, ![864, 128]⟩

abbrev nBuf : Space → Nat
  | .hbm => 15
  | .vmem => 0
  | .smem => 0
  | _ => 0

abbrev bufTy : (tb : Table) → Fin (tcTables nBuf tb) → BufTy
  | .hbm, ⟨0, _⟩ => ⟨S7077888, .f32⟩
  | .hbm, ⟨1, _⟩ => ⟨S4x2x4096x64, .bf16⟩
  | .hbm, ⟨2, _⟩ => ⟨S72x16x128, .f32⟩
  | .hbm, ⟨3, _⟩ => ⟨S72x4x3x32x2x128, .f32⟩
  | .hbm, ⟨4, _⟩ => ⟨S72x4x3x2x32x128, .f32⟩
  | .hbm, ⟨5, _⟩ => ⟨S72x4x3x2x4096, .f32⟩
  | .hbm, ⟨6, _⟩ => ⟨S72x4x3x2x4096, .bf16⟩
  | .hbm, ⟨7, _⟩ => ⟨S4x2x64x72x3, .f32⟩
  | .hbm, ⟨8, _⟩ => ⟨S72x4x3x2x64, .f32⟩
  | .hbm, ⟨9, _⟩ => ⟨S72x4x3x128, .f32⟩
  | .hbm, ⟨10, _⟩ => ⟨S72x4x4x128, .f32⟩
  | .hbm, ⟨11, _⟩ => ⟨S72x4x3x128, .f32⟩
  | .hbm, ⟨12, _⟩ => ⟨S72x4x3x128, .f32⟩
  | .hbm, ⟨13, _⟩ => ⟨S864x128, .f32⟩
  | .hbm, ⟨14, _⟩ => ⟨S864x128, .bf16⟩
  | _, _ => ⟨S7077888, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Proof.Scores.Points.lean ====
module

public import proofs.«01_k».proof.Proof.Gen.Scores
public import Idealize.ShloMosaic.Lib.Pipeline.Kit

@[expose] public section

noncomputable section

namespace Cert.Scores.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%0)) is fetched at the first point only, at any contents of the tables (its index map reads none). -/
theorem fetch0_0 (a : (pcfg0 (F := F)).Adm) : ∀ t : Fin (cfg0 a).N, ((cfg0 a).win 0).fetch t = true ↔ t.val % 72 = 0 :=
  (fun t => Pipeline.Window.fetchOf_const cc0_transform_0 (fun _ _ => rfl) (n := 72) (by decide) t : ∀ t : Fin grid0.N, Pipeline.Window.fetchOf grid0 false cc0_transform_0 t = true ↔ t.val % 72 = 0)
/-- Window 1 (operand 2 (%1)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 0 (by decide) (by decide) (Pipeline.Window.sep_of_coord cc0_transform_1 0 0 (fun _ => rfl) (by decide)) (P := 1) (by decide) t).mpr (Nat.mod_one _) : ∀ t : Fin grid0.N, Pipeline.Window.fetchOf grid0 false cc0_transform_1 t = true)
/-- Window 2 (operand 3 (%2)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 0 (fun _ => rfl) (by decide)) (P := 1) (by decide) t).mpr (Nat.mod_one _) : ∀ t : Fin grid0.N, Pipeline.Window.fetchOf grid0 false cc0_transform_2 t = true)
/-- Window 3 (operand 4 (%3)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 0 (by decide) (by decide) (Pipeline.Window.sep_of_coord cc0_transform_3 0 0 (fun _ => rfl) (by decide)) (P := 1) (by decide) t).mpr (Nat.mod_one _) : ∀ t : Fin grid0.N, Pipeline.Window.fetchOf grid0 false cc0_transform_3 t = true)
/-- Window 4 (operand 5 (%4)) is fetched at every point, at any contents of the tables (its index map reads none). -/
theorem fetch0_4 (a : (pcfg0 (F := F)).Adm) : ∀ t : Fin (cfg0 a).N, ((cfg0 a).win 4).fetch t = true :=
  (fun t => (Pipeline.Window.fetchOf_reads cc0_transform_4 reads0_4 hreads0_4 0 (by decide) (by decide) (Pipeline.Window.sep_of_coord cc0_transform_4 0 0 (fun _ => rfl) (by decide)) (P := 1) (by decide) t).mpr (Nat.mod_one _) : ∀ t : Fin grid0.N, Pipeline.Window.fetchOf grid0 false cc0_transform_4 t = true)
/-- Window 5 (operand 6 (%5)) is fetched at every point, at any contents of the tables (its index map reads none). -/
theorem fetch0_5 (a : (pcfg0 (F := F)).Adm) : ∀ t : Fin (cfg0 a).N, ((cfg0 a).win 5).fetch t = true :=
  (fun t => (Pipeline.Window.fetchOf_reads cc0_transform_5 reads0_5 hreads0_5 0 (by decide) (by decide) (Pipeline.Window.sep_of_coord cc0_transform_5 0 0 (fun _ => rfl) (by decide)) (P := 1) (by decide) t).mpr (Nat.mod_one _) : ∀ t : Fin grid0.N, Pipeline.Window.fetchOf grid0 false cc0_transform_5 t = true)
/-- Window 6 (result 0 (%6 0)) is written back at every point, at any contents of the tables (its index map reads none). -/
theorem flush0_6 (a : (pcfg0 (F := F)).Adm) : ∀ t : Fin (cfg0 a).N, ((cfg0 a).win 6).flush t = true :=
  (fun t => (Pipeline.Window.flushOf_reads cc0_transform_6 reads0_6 hreads0_6 0 (by decide) (by decide) (Pipeline.Window.sep_of_coord cc0_transform_6 0 0 (fun _ => rfl) (by decide)) (P := 1) (m := 0) (by decide) rfl t).mpr (Nat.mod_one _) : ∀ t : Fin grid0.N, Pipeline.Window.flushOf grid0 true cc0_transform_6 t = true)
/-- Window 7 (result 1 (%6 1)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 0 (by decide) (by decide) (Pipeline.Window.sep_of_coord cc0_transform_7 0 0 (fun _ => rfl) (by decide)) (P := 1) (m := 0) (by decide) rfl t).mpr (Nat.mod_one _) : ∀ t : Fin grid0.N, Pipeline.Window.flushOf grid0 true cc0_transform_7 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_scores (grid0.coords t) (Memref.whole main_arg6) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _) (Memref.whole cc0_scratch1) (Memref.isWhole_whole _)

end Cert.Scores.Gen

end
-- ==== Proof.Scores.Kit.lean ====
module

public import proofs.«01_k».proof.Proof.Gen.Scores.Launch
public import proofs.«01_k».proof.Proof.Gen.Scores.Skeleton
public import proofs.«01_k».proof.Proof.Scores.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Scores.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S72 .i32 := Memref.whole main_arg6
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MT nD τ sig Unit (Elt F) ℕ (UR sig nD τ) ℕ) :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp (MT nD τ sig Unit (Elt F) ℕ (UR sig nD τ) ℕ)) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Scores`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin grid0.N, cond0_0 (grid0.coords t) ↔ t.val % 72 = 0 :=
  (fun t => by
    have ht : t.val < 72 := Nat.lt_of_lt_of_eq t.isLt N_0
    have e0 : (grid0.coords t 0).val = t.val / 1 % 72 := Pipeline.Grid.coords_val t 0 (by decide) rfl
    simp only [cond0_0, e0]
    word_cmp
   : ∀ t : Fin grid0.N, cond0_0 (grid0.coords t) ↔ t.val % 72 = 0)

/-! ## The kernel body on any staging memrefs: a subtype the run finds -/

/-- One staging buffer of output window 6, through which its contents are stated (`View.read_writes_of_cover`: the
    choice does not matter). -/
abbrev VO0_6 : View sig .tc .vmem S1x4x16x4x128 .f32 := (Memref.whole cc0_stg6_0 : Memref sig .tc .vmem S1x4x16x4x128 .f32).view
/-- One staging buffer of output window 7, through which its contents are stated (`View.read_writes_of_cover`: the
    choice does not matter). -/
abbrev VO0_7 : View sig .tc .vmem S1x16x128 .f32 := (Memref.whole cc0_stg7_0 : Memref sig .tc .vmem S1x16x128 .f32).view
/-- Each window's current staging memref at point `t`, spelled as the pipeline passes it (`bodyAt0`), and its wholeness. -/
abbrev ms0_0 (hO : Ok m) (t : Fin (cfgM m hO).N) : Memref sig .tc .vmem S72x1536 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x4x128 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x4x128 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x8192x128 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x4x2048 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x3x4x2048 .i8 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x4x16x4x128 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x16x128 .f32 := spec0_7.stage ((cfgM m hO).slots t 7)
abbrev hs0_7 (hO : Ok m) (t : Fin (cfgM m hO).N) : (ms0_7 m hO t).IsWhole := hstage0_7 (((cfgM m hO).slots t 7).cast nbuf0_7)
/-- The scratch operands: whole scoped buffers of the kernel's own, passed beside the windows. -/
abbrev scM0_0 : Memref sig .tc .vmem S1152x128 .f32 := Memref.whole cc0_scratch0
abbrev scM0_1 : Memref sig .tc .vmem S16x2048 .f32 := Memref.whole cc0_scratch1
/-- The scratch `arg10` the kernel carries between points, as a view: what it holds is stated through it. -/
abbrev VS0_0 : View sig .tc .vmem S1152x128 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Scores.Gen

end
-- ==== Proof.Scores.RunA.lean ====
module

public import proofs.«01_k».proof.Proof.Scores.Kit

@[expose] public section

-- membership in a rectangle of production extents (`View.cover_of_tiled`): the elaborator's structural look
-- recurses once per coordinate of the long axes
set_option maxRecDepth 16384

noncomputable section

namespace Cert.Scores.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 8000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S72x1536 .bf16) (harg2 : arg2.IsWhole) (arg3 : Memref sig .tc .vmem S1x4x128 .bf16) (harg3 : arg3.IsWhole) (arg4 : Memref sig .tc .vmem S1x4x128 .bf16) (harg4 : arg4.IsWhole) (arg5 : Memref sig .tc .vmem S1x8192x128 .fp8e4m3) (harg5 : arg5.IsWhole) (arg6 : Memref sig .tc .vmem S1x4x2048 .f32) (harg6 : arg6.IsWhole) (arg7 : Memref sig .tc .vmem S1x3x4x2048 .i8) (harg7 : arg7.IsWhole) (arg8 : Memref sig .tc .vmem S1x4x16x4x128 .f32) (harg8 : arg8.IsWhole) (arg9 : Memref sig .tc .vmem S1x16x128 .f32) (harg9 : arg9.IsWhole) (arg10 : Memref sig .tc .vmem S1152x128 .f32) (harg10 : arg10.IsWhole) (arg11 : Memref sig .tc .vmem S16x2048 .f32) (harg11 : arg11.IsWhole) (hc0 : cond0_0 i)
    (x0 : Vec F S72x1536 .bf16) (x1 : Vec F S1x4x128 .bf16) (x2 : Vec F S1x4x128 .bf16) (x3 : Vec F S1x8192x128 .fp8e4m3) (x4 : Vec F S1x4x2048 .f32) (x5 : Vec F S1x3x4x2048 .i8) (xt0 : TbBuf0 (F := F) c tbM0_0) :
    Σ' (L6 : List (View.Piece (Elt F) S1x4x16x4x128 .f32)), Σ' (L7 : List (View.Piece (Elt F) S1x16x128 .f32)), Σ' (LS0 : List (View.Piece (Elt F) S1152x128 .f32)), { LT1 : List (View.Piece (Elt F) S16x2048 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LT1) ∗ tbPt0 c tbM0_0 xt0) -∗ K ⟨⟩))
          ⊢ wp frame (wpE (defs₀ (F := F)) Variants.none c none) E (cc0_scores i tbM0_0 htbM0_0 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_scores_eq_skeleton]; unfold cc0_scores_skel
    simp only [k0_part131_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexists _; iexact HS0
    isplitl [HS1]; · iexists _; iexact HS1
    iexact HT0

end Cert.Scores.Gen

end
-- ==== Proof.Scores.RunB.lean ====
module

public import proofs.«01_k».proof.Proof.Scores.RunA

@[expose] public section

-- membership in a rectangle of production extents (`View.cover_of_tiled`): the elaborator's structural look
-- recurses once per coordinate of the long axes
set_option maxRecDepth 16384

noncomputable section

namespace Cert.Scores.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 8000000 in
/-- What the body's stores leave in each output's staging memref, as pieces (last first) IN CASE B (`scf.if` 0 not taken: points 1, 2, … 71: 71 of 72), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S72x1536 .bf16) (harg2 : arg2.IsWhole) (arg3 : Memref sig .tc .vmem S1x4x128 .bf16) (harg3 : arg3.IsWhole) (arg4 : Memref sig .tc .vmem S1x4x128 .bf16) (harg4 : arg4.IsWhole) (arg5 : Memref sig .tc .vmem S1x8192x128 .fp8e4m3) (harg5 : arg5.IsWhole) (arg6 : Memref sig .tc .vmem S1x4x2048 .f32) (harg6 : arg6.IsWhole) (arg7 : Memref sig .tc .vmem S1x3x4x2048 .i8) (harg7 : arg7.IsWhole) (arg8 : Memref sig .tc .vmem S1x4x16x4x128 .f32) (harg8 : arg8.IsWhole) (arg9 : Memref sig .tc .vmem S1x16x128 .f32) (harg9 : arg9.IsWhole) (arg10 : Memref sig .tc .vmem S1152x128 .f32) (harg10 : arg10.IsWhole) (arg11 : Memref sig .tc .vmem S16x2048 .f32) (harg11 : arg11.IsWhole) (hc0 : ¬cond0_0 i)
    (x0 : Vec F S72x1536 .bf16) (x1 : Vec F S1x4x128 .bf16) (x2 : Vec F S1x4x128 .bf16) (x3 : Vec F S1x8192x128 .fp8e4m3) (x4 : Vec F S1x4x2048 .f32) (x5 : Vec F S1x3x4x2048 .i8) (xt0 : TbBuf0 (F := F) c tbM0_0) (xs0 : Vec F S1152x128 .f32) :
    Σ' (L6 : List (View.Piece (Elt F) S1x4x16x4x128 .f32)), Σ' (L7 : List (View.Piece (Elt F) S1x16x128 .f32)), Σ' (LS0 : List (View.Piece (Elt F) S1152x128 .f32)), { LT1 : List (View.Piece (Elt F) S16x2048 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ (∃ d, owns (c : Thread nD τ) arg11 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ owns (c : Thread nD τ) arg10 fullShare xs0 ∗ (∃ f, arg11.view.loc (c : Thread nD τ) ↦[arg11.view.set]{fullShare} arg11.view.writes (Elt F) f LT1) ∗ tbPt0 c tbM0_0 xt0) -∗ K ⟨⟩))
          ⊢ wp frame (wpE (defs₀ (F := F)) Variants.none c none) E (cc0_scores i tbM0_0 htbM0_0 arg2 harg2 arg3 harg3 arg4 harg4 arg5 harg5 arg6 harg6 arg7 harg7 arg8 harg8 arg9 harg9 arg10 harg10 arg11 harg11) K } := by
  refine ⟨?_, ?_, [], ?_, fun E K => ?run⟩
  case run =>
    simp only [cc0_scores_eq_skeleton]; unfold cc0_scores_skel
    simp only [k0_part131_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%ds1, %fs1, -, HS1⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]
    · iexists _; isplitr; · ipureintro; exact harg10.read_unread _
      iexact HS0
    isplitl [HS1]; · iexists _; iexact HS1
    iexact HT0

end Cert.Scores.Gen

end
-- ==== Proof.Scores.Frame.lean ====
module

public import proofs.«01_k».proof.Proof.Scores.RunB
public import Idealize.ShloMosaic.Lib.Claim

@[expose] public section

-- membership in a rectangle of production extents (`View.cover_of_tiled`): the elaborator's structural look
-- recurses once per coordinate of the long axes
set_option maxRecDepth 16384

noncomputable section

namespace Cert.Scores.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- Case A's pieces for output 6 are of SEVERAL sizes (128 stores of `S1x1x1x1x128`, `S1x1x1x3x128`): cut into blocks of `![1, 1, 1, 1, 128]` they tile its block (checked by the kernel's evaluation: Lib/Ring.lean `Piece.tiledBy`), so they cover it. -/
theorem cover0_A_6 (c : Dev nD) (i : grid0.Coords) (arg2 : Memref sig .tc .vmem S72x1536 .bf16) (harg2 : arg2.IsWhole) (arg3 : Memref sig .tc .vmem S1x4x128 .bf16) (harg3 : arg3.IsWhole) (arg4 : Memref sig .tc .vmem S1x4x128 .bf16) (harg4 : arg4.IsWhole) (arg5 : Memref sig .tc .vmem S1x8192x128 .fp8e4m3) (harg5 : arg5.IsWhole) (arg6 : Memref sig .tc .vmem S1x4x2048 .f32) (harg6 : arg6.IsWhole) (arg7 : Memref sig .tc .vmem S1x3x4x2048 .i8) (harg7 : arg7.IsWhole) (arg8 : Memref sig .tc .vmem S1x4x16x4x128 .f32) (harg8 : arg8.IsWhole) (arg9 : Memref sig .tc .vmem S1x16x128 .f32) (harg9 : arg9.IsWhole) (arg10 : Memref sig .tc .vmem S1152x128 .f32) (harg10 : arg10.IsWhole) (arg11 : Memref sig .tc .vmem S16x2048 .f32) (harg11 : arg11.IsWhole) (hc0 : cond0_0 i)
    (x0 : Vec F S72x1536 .bf16) (x1 : Vec F S1x4x128 .bf16) (x2 : Vec F S1x4x128 .bf16) (x3 : Vec F S1x8192x128 .fp8e4m3) (x4 : Vec F S1x4x2048 .f32) (x5 : Vec F S1x3x4x2048 .i8) (xt0 : TbBuf0 (F := F) c tbM0_0) (y : S1x4x16x4x128.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 xt0).1, y ∈ pc.1.set :=
  View.cover_of_tiledBy (kernelRun0_A c i arg2 harg2 arg3 harg3 arg4 harg4 arg5 harg5 arg6 harg6 arg7 harg7 arg8 harg8 arg9 harg9 arg10 harg10 arg11 harg11 hc0 x0 x1 x2 x3 x4 x5 xt0).1 ![1, 1, 1, 1, 128] (by sl_kernel_rfl) y

/-- What case A leaves in output 6's staging buffer: its pieces read back over junk. -/
def out0_A_6 (c : Dev nD) (i : grid0.Coords) (arg2 : Memref sig .tc .vmem S72x1536 .bf16) (harg2 : arg2.IsWhole) (arg3 : Memref sig .tc .vmem S1x4x128 .bf16) (harg3 : arg3.IsWhole) (arg4 : Memref sig .tc .vmem S1x4x128 .bf16) (harg4 : arg4.IsWhole) (arg5 : Memref sig .tc .vmem S1x8192x128 .fp8e4m3) (harg5 : arg5.IsWhole) (arg6 : Memref sig .tc .vmem S1x4x2048 .f32) (harg6 : arg6.IsWhole) (arg7 : Memref sig .tc .vmem S1x3x4x2048 .i8) (harg7 : arg7.IsWhole) (arg8 : Memref sig .tc .vmem S1x4x16x4x128 .f32) (harg8 : arg8.IsWhole) (arg9 : Memref sig .tc .vmem S1x16x128 .f32) (harg9 : arg9.IsWhole) (arg10 : Memref sig .tc .vmem S1152x128 .f32) (harg10 : arg10.IsWhole) (arg11 : Memref sig .tc .vmem S16x2048 .f32) (harg11 : arg11.IsWhole) (hc0 : cond0_0 i)
    (x0 : Vec F S72x1536 .bf16) (x1 : Vec F S1x4x128 .bf16) (x2 : Vec F S1x4x128 .bf16) (x3 : Vec F S1x8192x128 .fp8e4m3) (x4 : Vec F S1x4x2048 .f32) (x5 : Vec F S1x3x4x2048 .i8) (xt0 : TbBuf0 (F := F) c tbM0_0) : Vec F S1x4x16x4x128 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 hc0 x0 x1 x2 x3 x4 x5 xt0).1)

/-- Case A's pieces for output 7 tile its block (1 store of `S1x16x128`, checked by the kernel's evaluation: Lib/Ring.lean `Piece.tiledL`, linear in the pieces, through a loop's `@[irreducible]` trip theorem too), so they cover it. -/
theorem cover0_A_7 (c : Dev nD) (i : grid0.Coords) (arg2 : Memref sig .tc .vmem S72x1536 .bf16) (harg2 : arg2.IsWhole) (arg3 : Memref sig .tc .vmem S1x4x128 .bf16) (harg3 : arg3.IsWhole) (arg4 : Memref sig .tc .vmem S1x4x128 .bf16) (harg4 : arg4.IsWhole) (arg5 : Memref sig .tc .vmem S1x8192x128 .fp8e4m3) (harg5 : arg5.IsWhole) (arg6 : Memref sig .tc .vmem S1x4x2048 .f32) (harg6 : arg6.IsWhole) (arg7 : Memref sig .tc .vmem S1x3x4x2048 .i8) (harg7 : arg7.IsWhole) (arg8 : Memref sig .tc .vmem S1x4x16x4x128 .f32) (harg8 : arg8.IsWhole) (arg9 : Memref sig .tc .vmem S1x16x128 .f32) (harg9 : arg9.IsWhole) (arg10 : Memref sig .tc .vmem S1152x128 .f32) (harg10 : arg10.IsWhole) (arg11 : Memref sig .tc .vmem S16x2048 .f32) (harg11 : arg11.IsWhole) (hc0 : cond0_0 i)
    (x0 : Vec F S72x1536 .bf16) (x1 : Vec F S1x4x128 .bf16) (x2 : Vec F S1x4x128 .bf16) (x3 : Vec F S1x8192x128 .fp8e4m3) (x4 : Vec F S1x4x2048 .f32) (x5 : Vec F S1x3x4x2048 .i8) (xt0 : TbBuf0 (F := F) c tbM0_0) (y : S1x16x128.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 xt0).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3 x4 x5 xt0).2.1 S1x16x128.size (by sl_kernel_rfl) y

/-- What case A leaves in output 7's staging buffer: its pieces read back over junk. -/
def out0_A_7 (c : Dev nD) (i : grid0.Coords) (arg2 : Memref sig .tc .vmem S72x1536 .bf16) (harg2 : arg2.IsWhole) (arg3 : Memref sig .tc .vmem S1x4x128 .bf16) (harg3 : arg3.IsWhole) (arg4 : Memref sig .tc .vmem S1x4x128 .bf16) (harg4 : arg4.IsWhole) (arg5 : Memref sig .tc .vmem S1x8192x128 .fp8e4m3) (harg5 : arg5.IsWhole) (arg6 : Memref sig .tc .vmem S1x4x2048 .f32) (harg6 : arg6.IsWhole) (arg7 : Memref sig .tc .vmem S1x3x4x2048 .i8) (harg7 : arg7.IsWhole) (arg8 : Memref sig .tc .vmem S1x4x16x4x128 .f32) (harg8 : arg8.IsWhole) (arg9 : Memref sig .tc .vmem S1x16x128 .f32) (harg9 : arg9.IsWhole) (arg10 : Memref sig .tc .vmem S1152x128 .f32) (harg10 : arg10.IsWhole) (arg11 : Memref sig .tc .vmem S16x2048 .f32) (harg11 : arg11.IsWhole) (hc0 : cond0_0 i)
    (x0 : Vec F S72x1536 .bf16) (x1 : Vec F S1x4x128 .bf16) (x2 : Vec F S1x4x128 .bf16) (x3 : Vec F S1x8192x128 .fp8e4m3) (x4 : Vec F S1x4x2048 .f32) (x5 : Vec F S1x3x4x2048 .i8) (xt0 : TbBuf0 (F := F) c tbM0_0) : Vec F S1x16x128 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 hc0 x0 x1 x2 x3 x4 x5 xt0).2.1)

/-- Case A's pieces for scratch `arg10`, which the kernel carries between points, cover it: the first of them, the store of zeros, covers it alone. -/
theorem scover0_A_0 (c : Dev nD) (i : grid0.Coords) (arg2 : Memref sig .tc .vmem S72x1536 .bf16) (harg2 : arg2.IsWhole) (arg3 : Memref sig .tc .vmem S1x4x128 .bf16) (harg3 : arg3.IsWhole) (arg4 : Memref sig .tc .vmem S1x4x128 .bf16) (harg4 : arg4.IsWhole) (arg5 : Memref sig .tc .vmem S1x8192x128 .fp8e4m3) (harg5 : arg5.IsWhole) (arg6 : Memref sig .tc .vmem S1x4x2048 .f32) (harg6 : arg6.IsWhole) (arg7 : Memref sig .tc .vmem S1x3x4x2048 .i8) (harg7 : arg7.IsWhole) (arg8 : Memref sig .tc .vmem S1x4x16x4x128 .f32) (harg8 : arg8.IsWhole) (arg9 : Memref sig .tc .vmem S1x16x128 .f32) (harg9 : arg9.IsWhole) (arg10 : Memref sig .tc .vmem S1152x128 .f32) (harg10 : arg10.IsWhole) (arg11 : Memref sig .tc .vmem S16x2048 .f32) (harg11 : arg11.IsWhole) (hc0 : cond0_0 i)
    (x0 : Vec F S72x1536 .bf16) (x1 : Vec F S1x4x128 .bf16) (x2 : Vec F S1x4x128 .bf16) (x3 : Vec F S1x8192x128 .fp8e4m3) (x4 : Vec F S1x4x2048 .f32) (x5 : Vec F S1x3x4x2048 .i8) (xt0 : TbBuf0 (F := F) c tbM0_0) (y : S1152x128.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 xt0).2.2.1, y ∈ pc.1.set :=
  have h := View.cover_of_tiledL ((kernelRun0_A c i arg2 harg2 arg3 harg3 arg4 harg4 arg5 harg5 arg6 harg6 arg7 harg7 arg8 harg8 arg9 harg9 arg10 harg10 arg11 harg11 hc0 x0 x1 x2 x3 x4 x5 xt0).2.2.1.drop 108) S1152x128.size (by sl_kernel_rfl) y
  h.imp fun _ hp => ⟨List.mem_of_mem_drop hp.1, hp.2⟩

/-- What case A leaves in scratch `arg10`: its pieces read back over junk. -/
def sout0_A_0 (c : Dev nD) (i : grid0.Coords) (arg2 : Memref sig .tc .vmem S72x1536 .bf16) (harg2 : arg2.IsWhole) (arg3 : Memref sig .tc .vmem S1x4x128 .bf16) (harg3 : arg3.IsWhole) (arg4 : Memref sig .tc .vmem S1x4x128 .bf16) (harg4 : arg4.IsWhole) (arg5 : Memref sig .tc .vmem S1x8192x128 .fp8e4m3) (harg5 : arg5.IsWhole) (arg6 : Memref sig .tc .vmem S1x4x2048 .f32) (harg6 : arg6.IsWhole) (arg7 : Memref sig .tc .vmem S1x3x4x2048 .i8) (harg7 : arg7.IsWhole) (arg8 : Memref sig .tc .vmem S1x4x16x4x128 .f32) (harg8 : arg8.IsWhole) (arg9 : Memref sig .tc .vmem S1x16x128 .f32) (harg9 : arg9.IsWhole) (arg10 : Memref sig .tc .vmem S1152x128 .f32) (harg10 : arg10.IsWhole) (arg11 : Memref sig .tc .vmem S16x2048 .f32) (harg11 : arg11.IsWhole) (hc0 : cond0_0 i)
    (x0 : Vec F S72x1536 .bf16) (x1 : Vec F S1x4x128 .bf16) (x2 : Vec F S1x4x128 .bf16) (x3 : Vec F S1x8192x128 .fp8e4m3) (x4 : Vec F S1x4x2048 .f32) (x5 : Vec F S1x3x4x2048 .i8) (xt0 : TbBuf0 (F := F) c tbM0_0) : Vec F S1152x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 x0 x1 x2 x3 x4 x5 xt0).2.2.1)

/-- Case B's pieces for output 6 are of SEVERAL sizes (128 stores of `S1x1x1x1x128`, `S1x1x1x3x128`): cut into blocks of `![1, 1, 1, 1, 128]` they tile its block (checked by the kernel's evaluation: Lib/Ring.lean `Piece.tiledBy`), so they cover it. -/
theorem cover0_B_6 (c : Dev nD) (i : grid0.Coords) (arg2 : Memref sig .tc .vmem S72x1536 .bf16) (harg2 : arg2.IsWhole) (arg3 : Memref sig .tc .vmem S1x4x128 .bf16) (harg3 : arg3.IsWhole) (arg4 : Memref sig .tc .vmem S1x4x128 .bf16) (harg4 : arg4.IsWhole) (arg5 : Memref sig .tc .vmem S1x8192x128 .fp8e4m3) (harg5 : arg5.IsWhole) (arg6 : Memref sig .tc .vmem S1x4x2048 .f32) (harg6 : arg6.IsWhole) (arg7 : Memref sig .tc .vmem S1x3x4x2048 .i8) (harg7 : arg7.IsWhole) (arg8 : Memref sig .tc .vmem S1x4x16x4x128 .f32) (harg8 : arg8.IsWhole) (arg9 : Memref sig .tc .vmem S1x16x128 .f32) (harg9 : arg9.IsWhole) (arg10 : Memref sig .tc .vmem S1152x128 .f32) (harg10 : arg10.IsWhole) (arg11 : Memref sig .tc .vmem S16x2048 .f32) (harg11 : arg11.IsWhole) (hc0 : ¬cond0_0 i)
    (x0 : Vec F S72x1536 .bf16) (x1 : Vec F S1x4x128 .bf16) (x2 : Vec F S1x4x128 .bf16) (x3 : Vec F S1x8192x128 .fp8e4m3) (x4 : Vec F S1x4x2048 .f32) (x5 : Vec F S1x3x4x2048 .i8) (xt0 : TbBuf0 (F := F) c tbM0_0) (xs0 : Vec F S1152x128 .f32) (y : S1x4x16x4x128.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 x4 x5 xt0 xs0).1, y ∈ pc.1.set :=
  View.cover_of_tiledBy (kernelRun0_B c i arg2 harg2 arg3 harg3 arg4 harg4 arg5 harg5 arg6 harg6 arg7 harg7 arg8 harg8 arg9 harg9 arg10 harg10 arg11 harg11 hc0 x0 x1 x2 x3 x4 x5 xt0 xs0).1 ![1, 1, 1, 1, 128] (by sl_kernel_rfl) y

/-- What case B leaves in output 6's staging buffer: its pieces read back over junk. -/
def out0_B_6 (c : Dev nD) (i : grid0.Coords) (arg2 : Memref sig .tc .vmem S72x1536 .bf16) (harg2 : arg2.IsWhole) (arg3 : Memref sig .tc .vmem S1x4x128 .bf16) (harg3 : arg3.IsWhole) (arg4 : Memref sig .tc .vmem S1x4x128 .bf16) (harg4 : arg4.IsWhole) (arg5 : Memref sig .tc .vmem S1x8192x128 .fp8e4m3) (harg5 : arg5.IsWhole) (arg6 : Memref sig .tc .vmem S1x4x2048 .f32) (harg6 : arg6.IsWhole) (arg7 : Memref sig .tc .vmem S1x3x4x2048 .i8) (harg7 : arg7.IsWhole) (arg8 : Memref sig .tc .vmem S1x4x16x4x128 .f32) (harg8 : arg8.IsWhole) (arg9 : Memref sig .tc .vmem S1x16x128 .f32) (harg9 : arg9.IsWhole) (arg10 : Memref sig .tc .vmem S1152x128 .f32) (harg10 : arg10.IsWhole) (arg11 : Memref sig .tc .vmem S16x2048 .f32) (harg11 : arg11.IsWhole) (hc0 : ¬cond0_0 i)
    (x0 : Vec F S72x1536 .bf16) (x1 : Vec F S1x4x128 .bf16) (x2 : Vec F S1x4x128 .bf16) (x3 : Vec F S1x8192x128 .fp8e4m3) (x4 : Vec F S1x4x2048 .f32) (x5 : Vec F S1x3x4x2048 .i8) (xt0 : TbBuf0 (F := F) c tbM0_0) (xs0 : Vec F S1152x128 .f32) : Vec F S1x4x16x4x128 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 hc0 x0 x1 x2 x3 x4 x5 xt0 xs0).1)

/-- Case B's pieces for output 7 tile its block (1 store of `S1x16x128`, checked by the kernel's evaluation: Lib/Ring.lean `Piece.tiledL`, linear in the pieces, through a loop's `@[irreducible]` trip theorem too), so they cover it. -/
theorem cover0_B_7 (c : Dev nD) (i : grid0.Coords) (arg2 : Memref sig .tc .vmem S72x1536 .bf16) (harg2 : arg2.IsWhole) (arg3 : Memref sig .tc .vmem S1x4x128 .bf16) (harg3 : arg3.IsWhole) (arg4 : Memref sig .tc .vmem S1x4x128 .bf16) (harg4 : arg4.IsWhole) (arg5 : Memref sig .tc .vmem S1x8192x128 .fp8e4m3) (harg5 : arg5.IsWhole) (arg6 : Memref sig .tc .vmem S1x4x2048 .f32) (harg6 : arg6.IsWhole) (arg7 : Memref sig .tc .vmem S1x3x4x2048 .i8) (harg7 : arg7.IsWhole) (arg8 : Memref sig .tc .vmem S1x4x16x4x128 .f32) (harg8 : arg8.IsWhole) (arg9 : Memref sig .tc .vmem S1x16x128 .f32) (harg9 : arg9.IsWhole) (arg10 : Memref sig .tc .vmem S1152x128 .f32) (harg10 : arg10.IsWhole) (arg11 : Memref sig .tc .vmem S16x2048 .f32) (harg11 : arg11.IsWhole) (hc0 : ¬cond0_0 i)
    (x0 : Vec F S72x1536 .bf16) (x1 : Vec F S1x4x128 .bf16) (x2 : Vec F S1x4x128 .bf16) (x3 : Vec F S1x8192x128 .fp8e4m3) (x4 : Vec F S1x4x2048 .f32) (x5 : Vec F S1x3x4x2048 .i8) (xt0 : TbBuf0 (F := F) c tbM0_0) (xs0 : Vec F S1152x128 .f32) (y : S1x16x128.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 x4 x5 xt0 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 x4 x5 xt0 xs0).2.1 S1x16x128.size (by sl_kernel_rfl) y

/-- What case B leaves in output 7's staging buffer: its pieces read back over junk. -/
def out0_B_7 (c : Dev nD) (i : grid0.Coords) (arg2 : Memref sig .tc .vmem S72x1536 .bf16) (harg2 : arg2.IsWhole) (arg3 : Memref sig .tc .vmem S1x4x128 .bf16) (harg3 : arg3.IsWhole) (arg4 : Memref sig .tc .vmem S1x4x128 .bf16) (harg4 : arg4.IsWhole) (arg5 : Memref sig .tc .vmem S1x8192x128 .fp8e4m3) (harg5 : arg5.IsWhole) (arg6 : Memref sig .tc .vmem S1x4x2048 .f32) (harg6 : arg6.IsWhole) (arg7 : Memref sig .tc .vmem S1x3x4x2048 .i8) (harg7 : arg7.IsWhole) (arg8 : Memref sig .tc .vmem S1x4x16x4x128 .f32) (harg8 : arg8.IsWhole) (arg9 : Memref sig .tc .vmem S1x16x128 .f32) (harg9 : arg9.IsWhole) (arg10 : Memref sig .tc .vmem S1152x128 .f32) (harg10 : arg10.IsWhole) (arg11 : Memref sig .tc .vmem S16x2048 .f32) (harg11 : arg11.IsWhole) (hc0 : ¬cond0_0 i)
    (x0 : Vec F S72x1536 .bf16) (x1 : Vec F S1x4x128 .bf16) (x2 : Vec F S1x4x128 .bf16) (x3 : Vec F S1x8192x128 .fp8e4m3) (x4 : Vec F S1x4x2048 .f32) (x5 : Vec F S1x3x4x2048 .i8) (xt0 : TbBuf0 (F := F) c tbM0_0) (xs0 : Vec F S1152x128 .f32) : Vec F S1x16x128 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 hc0 x0 x1 x2 x3 x4 x5 xt0 xs0).2.1)

/-- Case B stores nothing into scratch `arg10`: it holds what the point before left. -/
def sout0_B_0 (c : Dev nD) (i : grid0.Coords) (arg2 : Memref sig .tc .vmem S72x1536 .bf16) (harg2 : arg2.IsWhole) (arg3 : Memref sig .tc .vmem S1x4x128 .bf16) (harg3 : arg3.IsWhole) (arg4 : Memref sig .tc .vmem S1x4x128 .bf16) (harg4 : arg4.IsWhole) (arg5 : Memref sig .tc .vmem S1x8192x128 .fp8e4m3) (harg5 : arg5.IsWhole) (arg6 : Memref sig .tc .vmem S1x4x2048 .f32) (harg6 : arg6.IsWhole) (arg7 : Memref sig .tc .vmem S1x3x4x2048 .i8) (harg7 : arg7.IsWhole) (arg8 : Memref sig .tc .vmem S1x4x16x4x128 .f32) (harg8 : arg8.IsWhole) (arg9 : Memref sig .tc .vmem S1x16x128 .f32) (harg9 : arg9.IsWhole) (arg10 : Memref sig .tc .vmem S1152x128 .f32) (harg10 : arg10.IsWhole) (arg11 : Memref sig .tc .vmem S16x2048 .f32) (harg11 : arg11.IsWhole) (hc0 : ¬cond0_0 i)
    (x0 : Vec F S72x1536 .bf16) (x1 : Vec F S1x4x128 .bf16) (x2 : Vec F S1x4x128 .bf16) (x3 : Vec F S1x8192x128 .fp8e4m3) (x4 : Vec F S1x4x2048 .f32) (x5 : Vec F S1x3x4x2048 .i8) (xt0 : TbBuf0 (F := F) c tbM0_0) (xs0 : Vec F S1152x128 .f32) : Vec F S1152x128 .f32 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (hO : Ok m) (c : Dev nD) : (n : ℕ) → n < (cfgM m hO).N → Vec F S1x4x16x4x128 .f32 × Vec F S1x16x128 .f32 × Vec F S1152x128 .f32
  | 0, hn => (out0_A_6 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) scM0_0 (Memref.isWhole_whole _) scM0_1 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (tbl m 0), out0_A_7 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) scM0_0 (Memref.isWhole_whole _) scM0_1 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (tbl m 0), sout0_A_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) scM0_0 (Memref.isWhole_whole _) scM0_1 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (tbl m 0))
  | n + 1, hn =>
    if h0 : (n + 1) % 72 = 0 then
      (out0_A_6 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) scM0_1 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0), out0_A_7 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) scM0_1 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0), sout0_A_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) scM0_1 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0))
    else
      (out0_B_6 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) scM0_1 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (outsAt0 hO c n (Nat.lt_of_succ_lt hn)).2.2, out0_B_7 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) scM0_1 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (outsAt0 hO c n (Nat.lt_of_succ_lt hn)).2.2, sout0_B_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) scM0_1 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (outsAt0 hO c n (Nat.lt_of_succ_lt hn)).2.2)

/-- `outsAt0` at a point of case A: that case's contents. -/
theorem outsAt0_A (hO : Ok m) (c : Dev nD) (t : Fin (cfgM m hO).N) (h0 : t.val % 72 = 0) :
    outsAt0 m hO c t.val t.isLt = (out0_A_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) ((hcond0_0 t).mpr h0) (iblk m hO c 0 t) (iblk m hO c 1 t) (iblk m hO c 2 t) (iblk m hO c 3 t) (iblk m hO c 4 t) (iblk m hO c 5 t) (tbl m 0), out0_A_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) ((hcond0_0 t).mpr h0) (iblk m hO c 0 t) (iblk m hO c 1 t) (iblk m hO c 2 t) (iblk m hO c 3 t) (iblk m hO c 4 t) (iblk m hO c 5 t) (tbl m 0), sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) ((hcond0_0 t).mpr h0) (iblk m hO c 0 t) (iblk m hO c 1 t) (iblk m hO c 2 t) (iblk m hO c 3 t) (iblk m hO c 4 t) (iblk m hO c 5 t) (tbl m 0)) := by
  obtain ⟨n, hn⟩ := t
  cases n with
  | zero => exact rfl
  | succ n => exact (dif_pos h0).trans rfl

/-- `outsAt0` at a point of case B: that case's contents, over what the point before left. -/
theorem outsAt0_B (hO : Ok m) (c : Dev nD) (t : Fin (cfgM m hO).N) (h0 : ¬t.val % 72 = 0) :
    outsAt0 m hO c t.val t.isLt = (out0_B_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) (fun h => h0 ((hcond0_0 t).mp h)) (iblk m hO c 0 t) (iblk m hO c 1 t) (iblk m hO c 2 t) (iblk m hO c 3 t) (iblk m hO c 4 t) (iblk m hO c 5 t) (tbl m 0) (outsAt0 m hO c (t.val - 1) (Nat.lt_of_le_of_lt (Nat.sub_le _ _) t.isLt)).2.2, out0_B_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) (fun h => h0 ((hcond0_0 t).mp h)) (iblk m hO c 0 t) (iblk m hO c 1 t) (iblk m hO c 2 t) (iblk m hO c 3 t) (iblk m hO c 4 t) (iblk m hO c 5 t) (tbl m 0) (outsAt0 m hO c (t.val - 1) (Nat.lt_of_le_of_lt (Nat.sub_le _ _) t.isLt)).2.2, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) (fun h => h0 ((hcond0_0 t).mp h)) (iblk m hO c 0 t) (iblk m hO c 1 t) (iblk m hO c 2 t) (iblk m hO c 3 t) (iblk m hO c 4 t) (iblk m hO c 5 t) (tbl m 0) (outsAt0 m hO c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp (MT nD τ sig Unit (Elt F) ℕ (UR sig nD τ) ℕ)
  | 0, _ => iprop(Pipeline.ΦA spec0 c ∗ Pipeline.ΦT pre0 (tbl m) c)
  | n + 1, hn => iprop(iprop(iprop(owns (c : Thread nD τ) scM0_0 fullShare ((outsAt0 m hO c n hn).2.2) ∗ (∃ d, owns (c : Thread nD τ) scM0_1 fullShare d)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2.2) ∗ (∃ d, owns (c : Thread nD τ) scM0_1 fullShare d)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2.2) ∗ (∃ d, owns (c : Thread nD τ) scM0_1 fullShare d)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => (outsAt0 m hO c t.val t.isLt).1
    | ⟨7, _⟩ => (outsAt0 m hO c t.val t.isLt).2.1
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = (outsAt0 m hO c t.val t.isLt).1 := by dsimp only [dats]; try rfl
theorem after0_7 (hO : Ok m) (c : Dev nD) (t : Fin (cfgM m hO).N) : (dats m hO 0 c).after 7 t = (outsAt0 m hO c t.val t.isLt).2.1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d

/-! ## The body obligation, at a generic point -/

/-- What the body is called with at point `t` (Lib/Pipeline.lean `BodyObligation`'s precondition, the windows one by one), -/
def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d)))

/-- and what it returns. -/
def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t))

set_option maxHeartbeats 8000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5]
  rw [show (dats m hO 0 c).owesAt () t.succ = (dats m hO 0 c).owesAt () t.castSucc from rfl,
    after0_0, after0_1, after0_2, after0_3, after0_4, after0_5, after0_6, after0_7]
  rw [show (dats m hO 0 c).Φ t.succ = PhiS m hO c (t.val + 1) t.isLt from rfl, PhiS_succ, PhiT0_eq]
  have hN : t.val < 72 := lt_of_lt_of_eq t.isLt (show (cfgM m hO).N = 72 from N_0)
  by_cases h0 : t.val % 72 = 0
  · by_cases hz : t.val = 0
    · rw [PhiS_castSucc m hO c t, PhiS_zero m hO c _ _ hz, PhiT0_eq, PhiA0_eq]
      rw [outsAt0_A m hO c t h0]
      unfold out0_A_6 out0_A_7 sout0_A_0; (try dsimp only)
      iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (tbl m 0)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      isplitl [HT0]; · iexact HT0
      iintro ⟨H0, H1, H2, H3, H4, H5, ⟨%e6, H6⟩, ⟨%e7, H7⟩, ⟨%es0, HS0⟩, ⟨%fT1, HS1⟩, HT0⟩
      isplitl [HS0 HS1 Hg HT0]
      · isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _)
            iexists _; unfold owns; iexists _; isplitr
            swap; · iexact HS1
            ipureintro; rfl
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _ _ _ _ _ _ _)
    · exfalso; have hN : t.val < 72 := lt_of_lt_of_eq t.isLt (show (cfgM m hO).N = 72 from N_0); omega
  · by_cases hz : t.val = 0
    · exfalso; have hN : t.val < 72 := lt_of_lt_of_eq t.isLt (show (cfgM m hO).N = 72 from N_0); omega
    · rw [PhiS_castSucc m hO c t, PhiS_pos m hO c _ _ hz, PhiT0_eq]
      rw [outsAt0_B m hO c t h0]
      unfold out0_B_6 out0_B_7 sout0_B_0; (try dsimp only)
      iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ (fun h => h0 ((hcond0_0 t).mp h)) (iblk m hO c 0 t) (iblk m hO c 1 t) (iblk m hO c 2 t) (iblk m hO c 3 t) (iblk m hO c 4 t) (iblk m hO c 5 t) (tbl m 0) _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      isplitl [HT0]; · iexact HT0
      iintro ⟨H0, H1, H2, H3, H4, H5, ⟨%e6, H6⟩, ⟨%e7, H7⟩, HS0, ⟨%fT1, HS1⟩, HT0⟩
      isplitl [HS0 HS1 Hg HT0]
      · isplitl [HS0 HS1 Hg]
        · isplitl [HS0 HS1]
          · isplitl [HS0]
            · iexact HS0
            iexists _; unfold owns; iexists _; isplitr
            swap; · iexact HS1
            ipureintro; rfl
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _)
      unfold owns; iexists _; isplitr
      swap; · iexact H7
      ipureintro; exact View.read_writes_of_cover _ _ _ _ _ (cover0_B_7 c _ _ _ _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1⟩, Hg⟩, -⟩
  isplitl [HS0 HS1]
  · isplitl [HS0]
    · iexists _; iexact HS0
    iexact HS1
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 72 := N_0; omega)

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO)

/-- THE FRAME: `Cert.quiescent_Scores`'s statement (Defs.lean) at any `F` — Proof.lean cites it at `Bits`:
    `theorem Cert.Proof.claim : Cert.Claim := ⟨Cert.Scores.Gen.facts, fun m ρ _ => Cert.Scores.Gen.frame m ρ⟩`; here for every contents of the PREFETCHED TABLES, UNDER `Gen.Ok m` (the pipeline's side condition of
    them), which Proof.lean proves from the precondition: `⟨…, fun m ρ h => Cert.Scores.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.Scores.Gen

end
-- ==== Proof.ScoresIdeal.Points.lean ====
module

public import proofs.«01_k».proof.Proof.Gen.ScoresIdeal
public import Idealize.ShloMosaic.Lib.Pipeline.Kit

@[expose] public section

noncomputable section

namespace Cert.ScoresIdeal.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%0)) is fetched at the first point only, at any contents of the tables (its index map reads none). -/
theorem fetch0_0 (a : (pcfg0 (F := F)).Adm) : ∀ t : Fin (cfg0 a).N, ((cfg0 a).win 0).fetch t = true ↔ t.val % 72 = 0 :=
  (fun t => Pipeline.Window.fetchOf_const cc0_transform_0 (fun _ _ => rfl) (n := 72) (by decide) t : ∀ t : Fin grid0.N, Pipeline.Window.fetchOf grid0 false cc0_transform_0 t = true ↔ t.val % 72 = 0)
/-- Window 1 (operand 2 (%1)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 0 (by decide) (by decide) (Pipeline.Window.sep_of_coord cc0_transform_1 0 0 (fun _ => rfl) (by decide)) (P := 1) (by decide) t).mpr (Nat.mod_one _) : ∀ t : Fin grid0.N, Pipeline.Window.fetchOf grid0 false cc0_transform_1 t = true)
/-- Window 2 (operand 3 (%2)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 0 (fun _ => rfl) (by decide)) (P := 1) (by decide) t).mpr (Nat.mod_one _) : ∀ t : Fin grid0.N, Pipeline.Window.fetchOf grid0 false cc0_transform_2 t = true)
/-- Window 3 (operand 4 (%3)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 0 (by decide) (by decide) (Pipeline.Window.sep_of_coord cc0_transform_3 0 0 (fun _ => rfl) (by decide)) (P := 1) (by decide) t).mpr (Nat.mod_one _) : ∀ t : Fin grid0.N, Pipeline.Window.fetchOf grid0 false cc0_transform_3 t = true)
/-- Window 4 (operand 5 (%4)) is fetched at every point, at any contents of the tables (its index map reads none). -/
theorem fetch0_4 (a : (pcfg0 (F := F)).Adm) : ∀ t : Fin (cfg0 a).N, ((cfg0 a).win 4).fetch t = true :=
  (fun t => (Pipeline.Window.fetchOf_reads cc0_transform_4 reads0_4 hreads0_4 0 (by decide) (by decide) (Pipeline.Window.sep_of_coord cc0_transform_4 0 0 (fun _ => rfl) (by decide)) (P := 1) (by decide) t).mpr (Nat.mod_one _) : ∀ t : Fin grid0.N, Pipeline.Window.fetchOf grid0 false cc0_transform_4 t = true)
/-- Window 5 (operand 6 (%5)) is fetched at every point, at any contents of the tables (its index map reads none). -/
theorem fetch0_5 (a : (pcfg0 (F := F)).Adm) : ∀ t : Fin (cfg0 a).N, ((cfg0 a).win 5).fetch t = true :=
  (fun t => (Pipeline.Window.fetchOf_reads cc0_transform_5 reads0_5 hreads0_5 0 (by decide) (by decide) (Pipeline.Window.sep_of_coord cc0_transform_5 0 0 (fun _ => rfl) (by decide)) (P := 1) (by decide) t).mpr (Nat.mod_one _) : ∀ t : Fin grid0.N, Pipeline.Window.fetchOf grid0 false cc0_transform_5 t = true)
/-- Window 6 (result 0 (%6 0)) is written back at every point, at any contents of the tables (its index map reads none). -/
theorem flush0_6 (a : (pcfg0 (F := F)).Adm) : ∀ t : Fin (cfg0 a).N, ((cfg0 a).win 6).flush t = true :=
  (fun t => (Pipeline.Window.flushOf_reads cc0_transform_6 reads0_6 hreads0_6 0 (by decide) (by decide) (Pipeline.Window.sep_of_coord cc0_transform_6 0 0 (fun _ => rfl) (by decide)) (P := 1) (m := 0) (by decide) rfl t).mpr (Nat.mod_one _) : ∀ t : Fin grid0.N, Pipeline.Window.flushOf grid0 true cc0_transform_6 t = true)
/-- Window 7 (result 1 (%6 1)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 0 (by decide) (by decide) (Pipeline.Window.sep_of_coord cc0_transform_7 0 0 (fun _ => rfl) (by decide)) (P := 1) (m := 0) (by decide) rfl t).mpr (Nat.mod_one _) : ∀ t : Fin grid0.N, Pipeline.Window.flushOf grid0 true cc0_transform_7 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_scores (grid0.coords t) (Memref.whole main_arg6) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _) (Memref.whole cc0_scratch1) (Memref.isWhole_whole _)

end Cert.ScoresIdeal.Gen

end
-- ==== Proof.ScoresIdeal.Kit.lean ====
module

public import proofs.«01_k».proof.Proof.Gen.ScoresIdeal.Launch
public import proofs.«01_k».proof.Proof.Gen.ScoresIdeal.Skeleton
public import proofs.«01_k».proof.Proof.ScoresIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.ScoresIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S72 .i32 := Memref.whole main_arg6
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MT nD τ sig Unit (Elt F) ℕ (UR sig nD τ) ℕ) :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp (MT nD τ sig Unit (Elt F) ℕ (UR sig nD τ) ℕ)) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_ScoresIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin grid0.N, cond0_0 (grid0.coords t) ↔ t.val % 72 = 0 :=
  (fun t => by
    have ht : t.val < 72 := Nat.lt_of_lt_of_eq t.isLt N_0
    have e0 : (grid0.coords t 0).val = t.val / 1 % 72 := Pipeline.Grid.coords_val t 0 (by decide) rfl
    simp only [cond0_0, e0]
    word_cmp
   : ∀ t : Fin grid0.N, cond0_0 (grid0.coords t) ↔ t.val % 72 = 0)

/-! ## The kernel body on any staging memrefs: a subtype the run finds -/

/-- One staging buffer of output window 6, through which its contents are stated (`View.read_writes_of_cover`: the
    choice does not matter). -/
abbrev VO0_6 : View sig .tc .vmem S1x4x16x4x128 .f32 := (Memref.whole cc0_stg6_0 : Memref sig .tc .vmem S1x4x16x4x128 .f32).view
/-- One staging buffer of output window 7, through which its contents are stated (`View.read_writes_of_cover`: the
    choice does not matter). -/
abbrev VO0_7 : View sig .tc .vmem S1x16x128 .f32 := (Memref.whole cc0_stg7_0 : Memref sig .tc .vmem S1x16x128 .f32).view
/-- Each window's current staging memref at point `t`, spelled as the pipeline passes it (`bodyAt0`), and its wholeness. -/
abbrev ms0_0 (hO : Ok m) (t : Fin (cfgM m hO).N) : Memref sig .tc .vmem S72x1536 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x4x128 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x4x128 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x8192x128 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x4x2048 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x3x4x2048 .i8 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x4x16x4x128 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x16x128 .f32 := spec0_7.stage ((cfgM m hO).slots t 7)
abbrev hs0_7 (hO : Ok m) (t : Fin (cfgM m hO).N) : (ms0_7 m hO t).IsWhole := hstage0_7 (((cfgM m hO).slots t 7).cast nbuf0_7)
/-- The scratch operands: whole scoped buffers of the kernel's own, passed beside the windows. -/
abbrev scM0_0 : Memref sig .tc .vmem S1152x128 .f32 := Memref.whole cc0_scratch0
abbrev scM0_1 : Memref sig .tc .vmem S16x2048 .f32 := Memref.whole cc0_scratch1
/-- The scratch `arg10` the kernel carries between points, as a view: what it holds is stated through it. -/
abbrev VS0_0 : View sig .tc .vmem S1152x128 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.ScoresIdeal.Gen

end
-- ==== Proof.ScoresIdeal.Tail.lean ====
module

public import proofs.«01_k».proof.Proof.ScoresIdeal.Kit

@[expose] public section

-- membership in a rectangle of production extents (`View.cover_of_tiled`): the elaborator's structural look
-- recurses once per coordinate of the long axes
set_option maxRecDepth 16384

noncomputable section

namespace Cert.ScoresIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The body cut after its first part (the query rows' first fill, the row's length, the row's queries): what remains is a function of that part's results. -/
@[irreducible] noncomputable def split (i : grid0.Coords) (arg2 : Memref sig .tc .vmem S72x1536 .bf16) (harg2 : arg2.IsWhole) (arg3 : Memref sig .tc .vmem S1x4x128 .bf16) (harg3 : arg3.IsWhole) (arg4 : Memref sig .tc .vmem S1x4x128 .bf16) (harg4 : arg4.IsWhole) (arg5 : Memref sig .tc .vmem S1x8192x128 .fp8e4m3) (harg5 : arg5.IsWhole) (arg6 : Memref sig .tc .vmem S1x4x2048 .f32) (harg6 : arg6.IsWhole) (arg7 : Memref sig .tc .vmem S1x3x4x2048 .i8) (harg7 : arg7.IsWhole) (arg8 : Memref sig .tc .vmem S1x4x16x4x128 .f32) (harg8 : arg8.IsWhole) (arg9 : Memref sig .tc .vmem S1x16x128 .f32) (harg9 : arg9.IsWhole) (arg10 : Memref sig .tc .vmem S1152x128 .f32) (harg10 : arg10.IsWhole) (arg11 : Memref sig .tc .vmem S16x2048 .f32) (harg11 : arg11.IsWhole) :
    { k : (Σ' (_ : Elt F .i32) (_ : Vec F S16x128 .f32) (_ : FVec F S32x256 .bf16) (_ : IVec S16x128 32) (_ : IVec S16x128 32) (_ : BitVec 32), IVec S16x128 32) → Prog (TpuEff nD τ sig (Elt F) Λ₀ .tc) PUnit // cc0_scores i tbM0_0 htbM0_0 arg2 harg2 arg3 harg3 arg4 harg4 arg5 harg5 arg6 harg6 arg7 harg7 arg8 harg8 arg9 harg9 arg10 harg10 arg11 harg11 = k0_part21 i tbM0_0 htbM0_0 arg2 harg2 arg3 harg3 arg4 harg4 arg5 harg5 arg6 harg6 arg7 harg7 arg8 harg8 arg9 harg9 arg10 harg10 arg11 harg11 >>= k } :=
  by
    refine ⟨?k, ?h⟩
    case h =>
      simp only [cc0_scores_eq_skeleton]; unfold cc0_scores_skel
      simp only [k0_part130_eq_skeleton]; unfold k0_part130_skel
      simp only [bind_assoc]
      rfl

set_option maxHeartbeats 8000000 in
/-- What the rest of the body stores, from the row's length `v4`, its queries `v8` and the blocks: the probabilities and positions (`L6`), the new token's share (`L7`), the scratch of the scores (`LT1`), WITH the run to the continuation. -/
noncomputable def tailRun (c : Dev nD) (i : grid0.Coords) (arg2 : Memref sig .tc .vmem S72x1536 .bf16) (harg2 : arg2.IsWhole) (arg3 : Memref sig .tc .vmem S1x4x128 .bf16) (harg3 : arg3.IsWhole) (arg4 : Memref sig .tc .vmem S1x4x128 .bf16) (harg4 : arg4.IsWhole) (arg5 : Memref sig .tc .vmem S1x8192x128 .fp8e4m3) (harg5 : arg5.IsWhole) (arg6 : Memref sig .tc .vmem S1x4x2048 .f32) (harg6 : arg6.IsWhole) (arg7 : Memref sig .tc .vmem S1x3x4x2048 .i8) (harg7 : arg7.IsWhole) (arg8 : Memref sig .tc .vmem S1x4x16x4x128 .f32) (harg8 : arg8.IsWhole) (arg9 : Memref sig .tc .vmem S1x16x128 .f32) (harg9 : arg9.IsWhole) (arg10 : Memref sig .tc .vmem S1152x128 .f32) (harg10 : arg10.IsWhole) (arg11 : Memref sig .tc .vmem S16x2048 .f32) (harg11 : arg11.IsWhole)
    (v4 : Elt F .i32) (v8 : Vec F S16x128 .f32) (x1 : Vec F S1x4x128 .bf16) (x2 : Vec F S1x4x128 .bf16) (x3 : Vec F S1x8192x128 .fp8e4m3) (x4 : Vec F S1x4x2048 .f32) (x5 : Vec F S1x3x4x2048 .i8) :
    Σ' (L6 : List (View.Piece (Elt F) S1x4x16x4x128 .f32)), Σ' (L7 : List (View.Piece (Elt F) S1x16x128 .f32)), { LT1 : List (View.Piece (Elt F) S16x2048 .f32) //
      ∀ (E : Set ℕ) (K : PUnit → sProp (MT nD τ sig Unit (Elt F) ℕ (UR sig nD τ) ℕ)),
        iprop(owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg11 fullShare d)
            ∗ (iprop(owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg11.view.loc (c : Thread nD τ) ↦[arg11.view.set]{fullShare} arg11.view.writes (Elt F) f LT1)) -∗ K ⟨⟩))
          ⊢ wp frame (wpE (defs₀ (F := F)) Variants.none c none) E ((split i arg2 harg2 arg3 harg3 arg4 harg4 arg5 harg5 arg6 harg6 arg7 harg7 arg8 harg8 arg9 harg9 arg10 harg10 arg11 harg11).1 ⟨v4, v8, k0_pay122 v8, iota .tc S16x128 32 [1] iota_S16x128_d1_w32, k0_pay123, Scalar.select (Scalar.cmpi .eq 32#32 0#32) 1#32 32#32, k0_pay124⟩) K } := by
  refine ⟨?_, ?_, ?_, fun E K => ?run⟩
  case run =>
    rw [split]
    simp only [k0_part131_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds1, %fs1, -, HS1⟩, Hk⟩
    obtain rfl := harg3.eq_unread hf1; obtain rfl := harg4.eq_unread hf2; obtain rfl := harg5.eq_unread hf3; obtain rfl := harg6.eq_unread hf4; obtain rfl := harg7.eq_unread hf5
    sl_exec
    sl_step
    iapply Hk
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact HS1

end Cert.ScoresIdeal.Gen

end
-- ==== Proof.ScoresIdeal.RunA.lean ====
module

public import proofs.«01_k».proof.Proof.ScoresIdeal.Tail

@[expose] public section

-- membership in a rectangle of production extents (`View.cover_of_tiled`): the elaborator's structural look
-- recurses once per coordinate of the long axes
set_option maxRecDepth 16384

noncomputable section

namespace Cert.ScoresIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 8000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S72x1536 .bf16) (harg2 : arg2.IsWhole) (arg3 : Memref sig .tc .vmem S1x4x128 .bf16) (harg3 : arg3.IsWhole) (arg4 : Memref sig .tc .vmem S1x4x128 .bf16) (harg4 : arg4.IsWhole) (arg5 : Memref sig .tc .vmem S1x8192x128 .fp8e4m3) (harg5 : arg5.IsWhole) (arg6 : Memref sig .tc .vmem S1x4x2048 .f32) (harg6 : arg6.IsWhole) (arg7 : Memref sig .tc .vmem S1x3x4x2048 .i8) (harg7 : arg7.IsWhole) (arg8 : Memref sig .tc .vmem S1x4x16x4x128 .f32) (harg8 : arg8.IsWhole) (arg9 : Memref sig .tc .vmem S1x16x128 .f32) (harg9 : arg9.IsWhole) (arg10 : Memref sig .tc .vmem S1152x128 .f32) (harg10 : arg10.IsWhole) (arg11 : Memref sig .tc .vmem S16x2048 .f32) (harg11 : arg11.IsWhole) (hc0 : cond0_0 i)
    (x0 : Vec F S72x1536 .bf16) (x1 : Vec F S1x4x128 .bf16) (x2 : Vec F S1x4x128 .bf16) (x3 : Vec F S1x8192x128 .fp8e4m3) (x4 : Vec F S1x4x2048 .f32) (x5 : Vec F S1x3x4x2048 .i8) (xt0 : TbBuf0 (F := F) c tbM0_0) :
    Σ' (L6 : List (View.Piece (Elt F) S1x4x16x4x128 .f32)), Σ' (L7 : List (View.Piece (Elt F) S1x16x128 .f32)), Σ' (LS0 : List (View.Piece (Elt F) S1152x128 .f32)), { LT1 : List (View.Piece (Elt F) S16x2048 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LT1) ∗ tbPt0 c tbM0_0 xt0) -∗ K ⟨⟩))
          ⊢ wp frame (wpE (defs₀ (F := F)) Variants.none c none) E (cc0_scores i tbM0_0 htbM0_0 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    rw [(split i arg2 harg2 arg3 harg3 arg4 harg4 arg5 harg5 arg6 harg6 arg7 harg7 arg8 harg8 arg9 harg9 arg10 harg10 arg11 harg11).2, wp_bind]
    simp only [k0_part21_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    iapply (tailRun c i arg2 harg2 arg3 harg3 arg4 harg4 arg5 harg5 arg6 harg6 arg7 harg7 arg8 harg8 arg9 harg9 arg10 harg10 arg11 harg11 _ _ x1 x2 x3 x4 x5).2.2.2
    isplitl [H1]
    · unfold owns; iexists _; isplitr; · ipureintro; exact harg3.read_unread _
      iexact H1
    isplitl [H2]
    · unfold owns; iexists _; isplitr; · ipureintro; exact harg4.read_unread _
      iexact H2
    isplitl [H3]
    · unfold owns; iexists _; isplitr; · ipureintro; exact harg5.read_unread _
      iexact H3
    isplitl [H4]
    · unfold owns; iexists _; isplitr; · ipureintro; exact harg6.read_unread _
      iexact H4
    isplitl [H5]
    · unfold owns; iexists _; isplitr; · ipureintro; exact harg7.read_unread _
      iexact H5
    isplitl [H6]
    · unfold owns; iexists _, f6; isplitr; · ipureintro; rfl
      iexact H6
    isplitl [H7]
    · unfold owns; iexists _, f7; isplitr; · ipureintro; rfl
      iexact H7
    isplitl [HS1]
    · unfold owns; iexists _, fs1; isplitr; · ipureintro; rfl
      iexact HS1
    unfold owns
    iintro ⟨H1, H2, H3, H4, H5, H6, H7, HS1⟩
    iapply Hk
    isplitl [H0]
    · iexists _; isplitr; · ipureintro; exact harg2.read_unread _
      iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexists _; iexact HS0
    isplitl [HS1]; · iexact HS1
    iexact HT0

end Cert.ScoresIdeal.Gen

end
-- ==== Proof.ScoresIdeal.RunB.lean ====
module

public import proofs.«01_k».proof.Proof.ScoresIdeal.RunA

@[expose] public section

-- membership in a rectangle of production extents (`View.cover_of_tiled`): the elaborator's structural look
-- recurses once per coordinate of the long axes
set_option maxRecDepth 16384

noncomputable section

namespace Cert.ScoresIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 8000000 in
/-- What the body's stores leave in each output's staging memref, as pieces (last first) IN CASE B (`scf.if` 0 not taken: points 1, 2, … 71: 71 of 72), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S72x1536 .bf16) (harg2 : arg2.IsWhole) (arg3 : Memref sig .tc .vmem S1x4x128 .bf16) (harg3 : arg3.IsWhole) (arg4 : Memref sig .tc .vmem S1x4x128 .bf16) (harg4 : arg4.IsWhole) (arg5 : Memref sig .tc .vmem S1x8192x128 .fp8e4m3) (harg5 : arg5.IsWhole) (arg6 : Memref sig .tc .vmem S1x4x2048 .f32) (harg6 : arg6.IsWhole) (arg7 : Memref sig .tc .vmem S1x3x4x2048 .i8) (harg7 : arg7.IsWhole) (arg8 : Memref sig .tc .vmem S1x4x16x4x128 .f32) (harg8 : arg8.IsWhole) (arg9 : Memref sig .tc .vmem S1x16x128 .f32) (harg9 : arg9.IsWhole) (arg10 : Memref sig .tc .vmem S1152x128 .f32) (harg10 : arg10.IsWhole) (arg11 : Memref sig .tc .vmem S16x2048 .f32) (harg11 : arg11.IsWhole) (hc0 : ¬cond0_0 i)
    (x0 : Vec F S72x1536 .bf16) (x1 : Vec F S1x4x128 .bf16) (x2 : Vec F S1x4x128 .bf16) (x3 : Vec F S1x8192x128 .fp8e4m3) (x4 : Vec F S1x4x2048 .f32) (x5 : Vec F S1x3x4x2048 .i8) (xt0 : TbBuf0 (F := F) c tbM0_0) (xs0 : Vec F S1152x128 .f32) :
    Σ' (L6 : List (View.Piece (Elt F) S1x4x16x4x128 .f32)), Σ' (L7 : List (View.Piece (Elt F) S1x16x128 .f32)), Σ' (LS0 : List (View.Piece (Elt F) S1152x128 .f32)), { LT1 : List (View.Piece (Elt F) S16x2048 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ (∃ d, owns (c : Thread nD τ) arg11 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ owns (c : Thread nD τ) arg10 fullShare xs0 ∗ (∃ f, arg11.view.loc (c : Thread nD τ) ↦[arg11.view.set]{fullShare} arg11.view.writes (Elt F) f LT1) ∗ tbPt0 c tbM0_0 xt0) -∗ K ⟨⟩))
          ⊢ wp frame (wpE (defs₀ (F := F)) Variants.none c none) E (cc0_scores i tbM0_0 htbM0_0 arg2 harg2 arg3 harg3 arg4 harg4 arg5 harg5 arg6 harg6 arg7 harg7 arg8 harg8 arg9 harg9 arg10 harg10 arg11 harg11) K } := by
  refine ⟨?_, ?_, [], ?_, fun E K => ?run⟩
  case run =>
    rw [(split i arg2 harg2 arg3 harg3 arg4 harg4 arg5 harg5 arg6 harg6 arg7 harg7 arg8 harg8 arg9 harg9 arg10 harg10 arg11 harg11).2, wp_bind]
    simp only [k0_part21_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%ds1, %fs1, -, HS1⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0
    sl_exec (disch := first | sl_exact hc0)
    iapply (tailRun c i arg2 harg2 arg3 harg3 arg4 harg4 arg5 harg5 arg6 harg6 arg7 harg7 arg8 harg8 arg9 harg9 arg10 harg10 arg11 harg11 _ _ x1 x2 x3 x4 x5).2.2.2
    isplitl [H1]
    · unfold owns; iexists _; isplitr; · ipureintro; exact harg3.read_unread _
      iexact H1
    isplitl [H2]
    · unfold owns; iexists _; isplitr; · ipureintro; exact harg4.read_unread _
      iexact H2
    isplitl [H3]
    · unfold owns; iexists _; isplitr; · ipureintro; exact harg5.read_unread _
      iexact H3
    isplitl [H4]
    · unfold owns; iexists _; isplitr; · ipureintro; exact harg6.read_unread _
      iexact H4
    isplitl [H5]
    · unfold owns; iexists _; isplitr; · ipureintro; exact harg7.read_unread _
      iexact H5
    isplitl [H6]
    · unfold owns; iexists _, f6; isplitr; · ipureintro; rfl
      iexact H6
    isplitl [H7]
    · unfold owns; iexists _, f7; isplitr; · ipureintro; rfl
      iexact H7
    isplitl [HS1]
    · unfold owns; iexists _, fs1; isplitr; · ipureintro; rfl
      iexact HS1
    unfold owns
    iintro ⟨H1, H2, H3, H4, H5, H6, H7, HS1⟩
    iapply Hk
    isplitl [H0]
    · iexists _; isplitr; · ipureintro; exact harg2.read_unread _
      iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]
    · iexists _; isplitr; · ipureintro; exact harg10.read_unread _
      iexact HS0
    isplitl [HS1]; · iexact HS1
    iexact HT0

end Cert.ScoresIdeal.Gen

end
-- ==== Proof.ScoresIdeal.Frame.lean ====
module

public import proofs.«01_k».proof.Proof.ScoresIdeal.RunB
public import Idealize.ShloMosaic.Lib.Claim

@[expose] public section

-- membership in a rectangle of production extents (`View.cover_of_tiled`): the elaborator's structural look
-- recurses once per coordinate of the long axes
set_option maxRecDepth 16384

noncomputable section

namespace Cert.ScoresIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- Case A's pieces for output 6 are of SEVERAL sizes (128 stores of `S1x1x1x1x128`, `S1x1x1x3x128`): cut into blocks of `![1, 1, 1, 1, 128]` they tile its block (checked by the kernel's evaluation: Lib/Ring.lean `Piece.tiledBy`), so they cover it. -/
theorem cover0_A_6 (c : Dev nD) (i : grid0.Coords) (arg2 : Memref sig .tc .vmem S72x1536 .bf16) (harg2 : arg2.IsWhole) (arg3 : Memref sig .tc .vmem S1x4x128 .bf16) (harg3 : arg3.IsWhole) (arg4 : Memref sig .tc .vmem S1x4x128 .bf16) (harg4 : arg4.IsWhole) (arg5 : Memref sig .tc .vmem S1x8192x128 .fp8e4m3) (harg5 : arg5.IsWhole) (arg6 : Memref sig .tc .vmem S1x4x2048 .f32) (harg6 : arg6.IsWhole) (arg7 : Memref sig .tc .vmem S1x3x4x2048 .i8) (harg7 : arg7.IsWhole) (arg8 : Memref sig .tc .vmem S1x4x16x4x128 .f32) (harg8 : arg8.IsWhole) (arg9 : Memref sig .tc .vmem S1x16x128 .f32) (harg9 : arg9.IsWhole) (arg10 : Memref sig .tc .vmem S1152x128 .f32) (harg10 : arg10.IsWhole) (arg11 : Memref sig .tc .vmem S16x2048 .f32) (harg11 : arg11.IsWhole) (hc0 : cond0_0 i)
    (x0 : Vec F S72x1536 .bf16) (x1 : Vec F S1x4x128 .bf16) (x2 : Vec F S1x4x128 .bf16) (x3 : Vec F S1x8192x128 .fp8e4m3) (x4 : Vec F S1x4x2048 .f32) (x5 : Vec F S1x3x4x2048 .i8) (xt0 : TbBuf0 (F := F) c tbM0_0) (y : S1x4x16x4x128.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 xt0).1, y ∈ pc.1.set :=
  View.cover_of_tiledBy (kernelRun0_A c i arg2 harg2 arg3 harg3 arg4 harg4 arg5 harg5 arg6 harg6 arg7 harg7 arg8 harg8 arg9 harg9 arg10 harg10 arg11 harg11 hc0 x0 x1 x2 x3 x4 x5 xt0).1 ![1, 1, 1, 1, 128] (by sl_kernel_rfl) y

/-- What case A leaves in output 6's staging buffer: its pieces read back over junk. -/
def out0_A_6 (c : Dev nD) (i : grid0.Coords) (arg2 : Memref sig .tc .vmem S72x1536 .bf16) (harg2 : arg2.IsWhole) (arg3 : Memref sig .tc .vmem S1x4x128 .bf16) (harg3 : arg3.IsWhole) (arg4 : Memref sig .tc .vmem S1x4x128 .bf16) (harg4 : arg4.IsWhole) (arg5 : Memref sig .tc .vmem S1x8192x128 .fp8e4m3) (harg5 : arg5.IsWhole) (arg6 : Memref sig .tc .vmem S1x4x2048 .f32) (harg6 : arg6.IsWhole) (arg7 : Memref sig .tc .vmem S1x3x4x2048 .i8) (harg7 : arg7.IsWhole) (arg8 : Memref sig .tc .vmem S1x4x16x4x128 .f32) (harg8 : arg8.IsWhole) (arg9 : Memref sig .tc .vmem S1x16x128 .f32) (harg9 : arg9.IsWhole) (arg10 : Memref sig .tc .vmem S1152x128 .f32) (harg10 : arg10.IsWhole) (arg11 : Memref sig .tc .vmem S16x2048 .f32) (harg11 : arg11.IsWhole) (hc0 : cond0_0 i)
    (x0 : Vec F S72x1536 .bf16) (x1 : Vec F S1x4x128 .bf16) (x2 : Vec F S1x4x128 .bf16) (x3 : Vec F S1x8192x128 .fp8e4m3) (x4 : Vec F S1x4x2048 .f32) (x5 : Vec F S1x3x4x2048 .i8) (xt0 : TbBuf0 (F := F) c tbM0_0) : Vec F S1x4x16x4x128 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 hc0 x0 x1 x2 x3 x4 x5 xt0).1)

/-- Case A's pieces for output 7 tile its block (1 store of `S1x16x128`, checked by the kernel's evaluation: Lib/Ring.lean `Piece.tiledL`, linear in the pieces, through a loop's `@[irreducible]` trip theorem too), so they cover it. -/
theorem cover0_A_7 (c : Dev nD) (i : grid0.Coords) (arg2 : Memref sig .tc .vmem S72x1536 .bf16) (harg2 : arg2.IsWhole) (arg3 : Memref sig .tc .vmem S1x4x128 .bf16) (harg3 : arg3.IsWhole) (arg4 : Memref sig .tc .vmem S1x4x128 .bf16) (harg4 : arg4.IsWhole) (arg5 : Memref sig .tc .vmem S1x8192x128 .fp8e4m3) (harg5 : arg5.IsWhole) (arg6 : Memref sig .tc .vmem S1x4x2048 .f32) (harg6 : arg6.IsWhole) (arg7 : Memref sig .tc .vmem S1x3x4x2048 .i8) (harg7 : arg7.IsWhole) (arg8 : Memref sig .tc .vmem S1x4x16x4x128 .f32) (harg8 : arg8.IsWhole) (arg9 : Memref sig .tc .vmem S1x16x128 .f32) (harg9 : arg9.IsWhole) (arg10 : Memref sig .tc .vmem S1152x128 .f32) (harg10 : arg10.IsWhole) (arg11 : Memref sig .tc .vmem S16x2048 .f32) (harg11 : arg11.IsWhole) (hc0 : cond0_0 i)
    (x0 : Vec F S72x1536 .bf16) (x1 : Vec F S1x4x128 .bf16) (x2 : Vec F S1x4x128 .bf16) (x3 : Vec F S1x8192x128 .fp8e4m3) (x4 : Vec F S1x4x2048 .f32) (x5 : Vec F S1x3x4x2048 .i8) (xt0 : TbBuf0 (F := F) c tbM0_0) (y : S1x16x128.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 xt0).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3 x4 x5 xt0).2.1 S1x16x128.size (by sl_kernel_rfl) y

/-- What case A leaves in output 7's staging buffer: its pieces read back over junk. -/
def out0_A_7 (c : Dev nD) (i : grid0.Coords) (arg2 : Memref sig .tc .vmem S72x1536 .bf16) (harg2 : arg2.IsWhole) (arg3 : Memref sig .tc .vmem S1x4x128 .bf16) (harg3 : arg3.IsWhole) (arg4 : Memref sig .tc .vmem S1x4x128 .bf16) (harg4 : arg4.IsWhole) (arg5 : Memref sig .tc .vmem S1x8192x128 .fp8e4m3) (harg5 : arg5.IsWhole) (arg6 : Memref sig .tc .vmem S1x4x2048 .f32) (harg6 : arg6.IsWhole) (arg7 : Memref sig .tc .vmem S1x3x4x2048 .i8) (harg7 : arg7.IsWhole) (arg8 : Memref sig .tc .vmem S1x4x16x4x128 .f32) (harg8 : arg8.IsWhole) (arg9 : Memref sig .tc .vmem S1x16x128 .f32) (harg9 : arg9.IsWhole) (arg10 : Memref sig .tc .vmem S1152x128 .f32) (harg10 : arg10.IsWhole) (arg11 : Memref sig .tc .vmem S16x2048 .f32) (harg11 : arg11.IsWhole) (hc0 : cond0_0 i)
    (x0 : Vec F S72x1536 .bf16) (x1 : Vec F S1x4x128 .bf16) (x2 : Vec F S1x4x128 .bf16) (x3 : Vec F S1x8192x128 .fp8e4m3) (x4 : Vec F S1x4x2048 .f32) (x5 : Vec F S1x3x4x2048 .i8) (xt0 : TbBuf0 (F := F) c tbM0_0) : Vec F S1x16x128 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 hc0 x0 x1 x2 x3 x4 x5 xt0).2.1)

/-- Case A's pieces for scratch `arg10`, which the kernel carries between points, cover it: the first of them, the store of zeros, covers it alone. -/
theorem scover0_A_0 (c : Dev nD) (i : grid0.Coords) (arg2 : Memref sig .tc .vmem S72x1536 .bf16) (harg2 : arg2.IsWhole) (arg3 : Memref sig .tc .vmem S1x4x128 .bf16) (harg3 : arg3.IsWhole) (arg4 : Memref sig .tc .vmem S1x4x128 .bf16) (harg4 : arg4.IsWhole) (arg5 : Memref sig .tc .vmem S1x8192x128 .fp8e4m3) (harg5 : arg5.IsWhole) (arg6 : Memref sig .tc .vmem S1x4x2048 .f32) (harg6 : arg6.IsWhole) (arg7 : Memref sig .tc .vmem S1x3x4x2048 .i8) (harg7 : arg7.IsWhole) (arg8 : Memref sig .tc .vmem S1x4x16x4x128 .f32) (harg8 : arg8.IsWhole) (arg9 : Memref sig .tc .vmem S1x16x128 .f32) (harg9 : arg9.IsWhole) (arg10 : Memref sig .tc .vmem S1152x128 .f32) (harg10 : arg10.IsWhole) (arg11 : Memref sig .tc .vmem S16x2048 .f32) (harg11 : arg11.IsWhole) (hc0 : cond0_0 i)
    (x0 : Vec F S72x1536 .bf16) (x1 : Vec F S1x4x128 .bf16) (x2 : Vec F S1x4x128 .bf16) (x3 : Vec F S1x8192x128 .fp8e4m3) (x4 : Vec F S1x4x2048 .f32) (x5 : Vec F S1x3x4x2048 .i8) (xt0 : TbBuf0 (F := F) c tbM0_0) (y : S1152x128.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 xt0).2.2.1, y ∈ pc.1.set :=
  have h := View.cover_of_tiledL ((kernelRun0_A c i arg2 harg2 arg3 harg3 arg4 harg4 arg5 harg5 arg6 harg6 arg7 harg7 arg8 harg8 arg9 harg9 arg10 harg10 arg11 harg11 hc0 x0 x1 x2 x3 x4 x5 xt0).2.2.1.drop 108) S1152x128.size (by sl_kernel_rfl) y
  h.imp fun _ hp => ⟨List.mem_of_mem_drop hp.1, hp.2⟩

/-- What case A leaves in scratch `arg10`: its pieces read back over junk. -/
def sout0_A_0 (c : Dev nD) (i : grid0.Coords) (arg2 : Memref sig .tc .vmem S72x1536 .bf16) (harg2 : arg2.IsWhole) (arg3 : Memref sig .tc .vmem S1x4x128 .bf16) (harg3 : arg3.IsWhole) (arg4 : Memref sig .tc .vmem S1x4x128 .bf16) (harg4 : arg4.IsWhole) (arg5 : Memref sig .tc .vmem S1x8192x128 .fp8e4m3) (harg5 : arg5.IsWhole) (arg6 : Memref sig .tc .vmem S1x4x2048 .f32) (harg6 : arg6.IsWhole) (arg7 : Memref sig .tc .vmem S1x3x4x2048 .i8) (harg7 : arg7.IsWhole) (arg8 : Memref sig .tc .vmem S1x4x16x4x128 .f32) (harg8 : arg8.IsWhole) (arg9 : Memref sig .tc .vmem S1x16x128 .f32) (harg9 : arg9.IsWhole) (arg10 : Memref sig .tc .vmem S1152x128 .f32) (harg10 : arg10.IsWhole) (arg11 : Memref sig .tc .vmem S16x2048 .f32) (harg11 : arg11.IsWhole) (hc0 : cond0_0 i)
    (x0 : Vec F S72x1536 .bf16) (x1 : Vec F S1x4x128 .bf16) (x2 : Vec F S1x4x128 .bf16) (x3 : Vec F S1x8192x128 .fp8e4m3) (x4 : Vec F S1x4x2048 .f32) (x5 : Vec F S1x3x4x2048 .i8) (xt0 : TbBuf0 (F := F) c tbM0_0) : Vec F S1152x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 x0 x1 x2 x3 x4 x5 xt0).2.2.1)

/-- Case B's pieces for output 6 are of SEVERAL sizes (128 stores of `S1x1x1x1x128`, `S1x1x1x3x128`): cut into blocks of `![1, 1, 1, 1, 128]` they tile its block (checked by the kernel's evaluation: Lib/Ring.lean `Piece.tiledBy`), so they cover it. -/
theorem cover0_B_6 (c : Dev nD) (i : grid0.Coords) (arg2 : Memref sig .tc .vmem S72x1536 .bf16) (harg2 : arg2.IsWhole) (arg3 : Memref sig .tc .vmem S1x4x128 .bf16) (harg3 : arg3.IsWhole) (arg4 : Memref sig .tc .vmem S1x4x128 .bf16) (harg4 : arg4.IsWhole) (arg5 : Memref sig .tc .vmem S1x8192x128 .fp8e4m3) (harg5 : arg5.IsWhole) (arg6 : Memref sig .tc .vmem S1x4x2048 .f32) (harg6 : arg6.IsWhole) (arg7 : Memref sig .tc .vmem S1x3x4x2048 .i8) (harg7 : arg7.IsWhole) (arg8 : Memref sig .tc .vmem S1x4x16x4x128 .f32) (harg8 : arg8.IsWhole) (arg9 : Memref sig .tc .vmem S1x16x128 .f32) (harg9 : arg9.IsWhole) (arg10 : Memref sig .tc .vmem S1152x128 .f32) (harg10 : arg10.IsWhole) (arg11 : Memref sig .tc .vmem S16x2048 .f32) (harg11 : arg11.IsWhole) (hc0 : ¬cond0_0 i)
    (x0 : Vec F S72x1536 .bf16) (x1 : Vec F S1x4x128 .bf16) (x2 : Vec F S1x4x128 .bf16) (x3 : Vec F S1x8192x128 .fp8e4m3) (x4 : Vec F S1x4x2048 .f32) (x5 : Vec F S1x3x4x2048 .i8) (xt0 : TbBuf0 (F := F) c tbM0_0) (xs0 : Vec F S1152x128 .f32) (y : S1x4x16x4x128.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 x4 x5 xt0 xs0).1, y ∈ pc.1.set :=
  View.cover_of_tiledBy (kernelRun0_B c i arg2 harg2 arg3 harg3 arg4 harg4 arg5 harg5 arg6 harg6 arg7 harg7 arg8 harg8 arg9 harg9 arg10 harg10 arg11 harg11 hc0 x0 x1 x2 x3 x4 x5 xt0 xs0).1 ![1, 1, 1, 1, 128] (by sl_kernel_rfl) y

/-- What case B leaves in output 6's staging buffer: its pieces read back over junk. -/
def out0_B_6 (c : Dev nD) (i : grid0.Coords) (arg2 : Memref sig .tc .vmem S72x1536 .bf16) (harg2 : arg2.IsWhole) (arg3 : Memref sig .tc .vmem S1x4x128 .bf16) (harg3 : arg3.IsWhole) (arg4 : Memref sig .tc .vmem S1x4x128 .bf16) (harg4 : arg4.IsWhole) (arg5 : Memref sig .tc .vmem S1x8192x128 .fp8e4m3) (harg5 : arg5.IsWhole) (arg6 : Memref sig .tc .vmem S1x4x2048 .f32) (harg6 : arg6.IsWhole) (arg7 : Memref sig .tc .vmem S1x3x4x2048 .i8) (harg7 : arg7.IsWhole) (arg8 : Memref sig .tc .vmem S1x4x16x4x128 .f32) (harg8 : arg8.IsWhole) (arg9 : Memref sig .tc .vmem S1x16x128 .f32) (harg9 : arg9.IsWhole) (arg10 : Memref sig .tc .vmem S1152x128 .f32) (harg10 : arg10.IsWhole) (arg11 : Memref sig .tc .vmem S16x2048 .f32) (harg11 : arg11.IsWhole) (hc0 : ¬cond0_0 i)
    (x0 : Vec F S72x1536 .bf16) (x1 : Vec F S1x4x128 .bf16) (x2 : Vec F S1x4x128 .bf16) (x3 : Vec F S1x8192x128 .fp8e4m3) (x4 : Vec F S1x4x2048 .f32) (x5 : Vec F S1x3x4x2048 .i8) (xt0 : TbBuf0 (F := F) c tbM0_0) (xs0 : Vec F S1152x128 .f32) : Vec F S1x4x16x4x128 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 hc0 x0 x1 x2 x3 x4 x5 xt0 xs0).1)

/-- Case B's pieces for output 7 tile its block (1 store of `S1x16x128`, checked by the kernel's evaluation: Lib/Ring.lean `Piece.tiledL`, linear in the pieces, through a loop's `@[irreducible]` trip theorem too), so they cover it. -/
theorem cover0_B_7 (c : Dev nD) (i : grid0.Coords) (arg2 : Memref sig .tc .vmem S72x1536 .bf16) (harg2 : arg2.IsWhole) (arg3 : Memref sig .tc .vmem S1x4x128 .bf16) (harg3 : arg3.IsWhole) (arg4 : Memref sig .tc .vmem S1x4x128 .bf16) (harg4 : arg4.IsWhole) (arg5 : Memref sig .tc .vmem S1x8192x128 .fp8e4m3) (harg5 : arg5.IsWhole) (arg6 : Memref sig .tc .vmem S1x4x2048 .f32) (harg6 : arg6.IsWhole) (arg7 : Memref sig .tc .vmem S1x3x4x2048 .i8) (harg7 : arg7.IsWhole) (arg8 : Memref sig .tc .vmem S1x4x16x4x128 .f32) (harg8 : arg8.IsWhole) (arg9 : Memref sig .tc .vmem S1x16x128 .f32) (harg9 : arg9.IsWhole) (arg10 : Memref sig .tc .vmem S1152x128 .f32) (harg10 : arg10.IsWhole) (arg11 : Memref sig .tc .vmem S16x2048 .f32) (harg11 : arg11.IsWhole) (hc0 : ¬cond0_0 i)
    (x0 : Vec F S72x1536 .bf16) (x1 : Vec F S1x4x128 .bf16) (x2 : Vec F S1x4x128 .bf16) (x3 : Vec F S1x8192x128 .fp8e4m3) (x4 : Vec F S1x4x2048 .f32) (x5 : Vec F S1x3x4x2048 .i8) (xt0 : TbBuf0 (F := F) c tbM0_0) (xs0 : Vec F S1152x128 .f32) (y : S1x16x128.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 x4 x5 xt0 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 x4 x5 xt0 xs0).2.1 S1x16x128.size (by sl_kernel_rfl) y

/-- What case B leaves in output 7's staging buffer: its pieces read back over junk. -/
def out0_B_7 (c : Dev nD) (i : grid0.Coords) (arg2 : Memref sig .tc .vmem S72x1536 .bf16) (harg2 : arg2.IsWhole) (arg3 : Memref sig .tc .vmem S1x4x128 .bf16) (harg3 : arg3.IsWhole) (arg4 : Memref sig .tc .vmem S1x4x128 .bf16) (harg4 : arg4.IsWhole) (arg5 : Memref sig .tc .vmem S1x8192x128 .fp8e4m3) (harg5 : arg5.IsWhole) (arg6 : Memref sig .tc .vmem S1x4x2048 .f32) (harg6 : arg6.IsWhole) (arg7 : Memref sig .tc .vmem S1x3x4x2048 .i8) (harg7 : arg7.IsWhole) (arg8 : Memref sig .tc .vmem S1x4x16x4x128 .f32) (harg8 : arg8.IsWhole) (arg9 : Memref sig .tc .vmem S1x16x128 .f32) (harg9 : arg9.IsWhole) (arg10 : Memref sig .tc .vmem S1152x128 .f32) (harg10 : arg10.IsWhole) (arg11 : Memref sig .tc .vmem S16x2048 .f32) (harg11 : arg11.IsWhole) (hc0 : ¬cond0_0 i)
    (x0 : Vec F S72x1536 .bf16) (x1 : Vec F S1x4x128 .bf16) (x2 : Vec F S1x4x128 .bf16) (x3 : Vec F S1x8192x128 .fp8e4m3) (x4 : Vec F S1x4x2048 .f32) (x5 : Vec F S1x3x4x2048 .i8) (xt0 : TbBuf0 (F := F) c tbM0_0) (xs0 : Vec F S1152x128 .f32) : Vec F S1x16x128 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 hc0 x0 x1 x2 x3 x4 x5 xt0 xs0).2.1)

/-- Case B stores nothing into scratch `arg10`: it holds what the point before left. -/
def sout0_B_0 (c : Dev nD) (i : grid0.Coords) (arg2 : Memref sig .tc .vmem S72x1536 .bf16) (harg2 : arg2.IsWhole) (arg3 : Memref sig .tc .vmem S1x4x128 .bf16) (harg3 : arg3.IsWhole) (arg4 : Memref sig .tc .vmem S1x4x128 .bf16) (harg4 : arg4.IsWhole) (arg5 : Memref sig .tc .vmem S1x8192x128 .fp8e4m3) (harg5 : arg5.IsWhole) (arg6 : Memref sig .tc .vmem S1x4x2048 .f32) (harg6 : arg6.IsWhole) (arg7 : Memref sig .tc .vmem S1x3x4x2048 .i8) (harg7 : arg7.IsWhole) (arg8 : Memref sig .tc .vmem S1x4x16x4x128 .f32) (harg8 : arg8.IsWhole) (arg9 : Memref sig .tc .vmem S1x16x128 .f32) (harg9 : arg9.IsWhole) (arg10 : Memref sig .tc .vmem S1152x128 .f32) (harg10 : arg10.IsWhole) (arg11 : Memref sig .tc .vmem S16x2048 .f32) (harg11 : arg11.IsWhole) (hc0 : ¬cond0_0 i)
    (x0 : Vec F S72x1536 .bf16) (x1 : Vec F S1x4x128 .bf16) (x2 : Vec F S1x4x128 .bf16) (x3 : Vec F S1x8192x128 .fp8e4m3) (x4 : Vec F S1x4x2048 .f32) (x5 : Vec F S1x3x4x2048 .i8) (xt0 : TbBuf0 (F := F) c tbM0_0) (xs0 : Vec F S1152x128 .f32) : Vec F S1152x128 .f32 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (hO : Ok m) (c : Dev nD) : (n : ℕ) → n < (cfgM m hO).N → Vec F S1x4x16x4x128 .f32 × Vec F S1x16x128 .f32 × Vec F S1152x128 .f32
  | 0, hn => (out0_A_6 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) scM0_0 (Memref.isWhole_whole _) scM0_1 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (tbl m 0), out0_A_7 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) scM0_0 (Memref.isWhole_whole _) scM0_1 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (tbl m 0), sout0_A_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) scM0_0 (Memref.isWhole_whole _) scM0_1 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (tbl m 0))
  | n + 1, hn =>
    if h0 : (n + 1) % 72 = 0 then
      (out0_A_6 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) scM0_1 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0), out0_A_7 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) scM0_1 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0), sout0_A_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) scM0_1 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0))
    else
      (out0_B_6 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) scM0_1 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (outsAt0 hO c n (Nat.lt_of_succ_lt hn)).2.2, out0_B_7 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) scM0_1 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (outsAt0 hO c n (Nat.lt_of_succ_lt hn)).2.2, sout0_B_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) scM0_1 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (tbl m 0) (outsAt0 hO c n (Nat.lt_of_succ_lt hn)).2.2)

/-- `outsAt0` at a point of case A: that case's contents. -/
theorem outsAt0_A (hO : Ok m) (c : Dev nD) (t : Fin (cfgM m hO).N) (h0 : t.val % 72 = 0) :
    outsAt0 m hO c t.val t.isLt = (out0_A_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) ((hcond0_0 t).mpr h0) (iblk m hO c 0 t) (iblk m hO c 1 t) (iblk m hO c 2 t) (iblk m hO c 3 t) (iblk m hO c 4 t) (iblk m hO c 5 t) (tbl m 0), out0_A_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) ((hcond0_0 t).mpr h0) (iblk m hO c 0 t) (iblk m hO c 1 t) (iblk m hO c 2 t) (iblk m hO c 3 t) (iblk m hO c 4 t) (iblk m hO c 5 t) (tbl m 0), sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) ((hcond0_0 t).mpr h0) (iblk m hO c 0 t) (iblk m hO c 1 t) (iblk m hO c 2 t) (iblk m hO c 3 t) (iblk m hO c 4 t) (iblk m hO c 5 t) (tbl m 0)) := by
  obtain ⟨n, hn⟩ := t
  cases n with
  | zero => exact rfl
  | succ n => exact (dif_pos h0).trans rfl

/-- `outsAt0` at a point of case B: that case's contents, over what the point before left. -/
theorem outsAt0_B (hO : Ok m) (c : Dev nD) (t : Fin (cfgM m hO).N) (h0 : ¬t.val % 72 = 0) :
    outsAt0 m hO c t.val t.isLt = (out0_B_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) (fun h => h0 ((hcond0_0 t).mp h)) (iblk m hO c 0 t) (iblk m hO c 1 t) (iblk m hO c 2 t) (iblk m hO c 3 t) (iblk m hO c 4 t) (iblk m hO c 5 t) (tbl m 0) (outsAt0 m hO c (t.val - 1) (Nat.lt_of_le_of_lt (Nat.sub_le _ _) t.isLt)).2.2, out0_B_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) (fun h => h0 ((hcond0_0 t).mp h)) (iblk m hO c 0 t) (iblk m hO c 1 t) (iblk m hO c 2 t) (iblk m hO c 3 t) (iblk m hO c 4 t) (iblk m hO c 5 t) (tbl m 0) (outsAt0 m hO c (t.val - 1) (Nat.lt_of_le_of_lt (Nat.sub_le _ _) t.isLt)).2.2, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) (fun h => h0 ((hcond0_0 t).mp h)) (iblk m hO c 0 t) (iblk m hO c 1 t) (iblk m hO c 2 t) (iblk m hO c 3 t) (iblk m hO c 4 t) (iblk m hO c 5 t) (tbl m 0) (outsAt0 m hO c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp (MT nD τ sig Unit (Elt F) ℕ (UR sig nD τ) ℕ)
  | 0, _ => iprop(Pipeline.ΦA spec0 c ∗ Pipeline.ΦT pre0 (tbl m) c)
  | n + 1, hn => iprop(iprop(iprop(owns (c : Thread nD τ) scM0_0 fullShare ((outsAt0 m hO c n hn).2.2) ∗ (∃ d, owns (c : Thread nD τ) scM0_1 fullShare d)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2.2) ∗ (∃ d, owns (c : Thread nD τ) scM0_1 fullShare d)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2.2) ∗ (∃ d, owns (c : Thread nD τ) scM0_1 fullShare d)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => (outsAt0 m hO c t.val t.isLt).1
    | ⟨7, _⟩ => (outsAt0 m hO c t.val t.isLt).2.1
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = (outsAt0 m hO c t.val t.isLt).1 := by dsimp only [dats]; try rfl
theorem after0_7 (hO : Ok m) (c : Dev nD) (t : Fin (cfgM m hO).N) : (dats m hO 0 c).after 7 t = (outsAt0 m hO c t.val t.isLt).2.1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d

/-! ## The body obligation, at a generic point -/

/-- What the body is called with at point `t` (Lib/Pipeline.lean `BodyObligation`'s precondition, the windows one by one), -/
def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d)))

/-- and what it returns. -/
def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t))

set_option maxHeartbeats 8000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5]
  rw [show (dats m hO 0 c).owesAt () t.succ = (dats m hO 0 c).owesAt () t.castSucc from rfl,
    after0_0, after0_1, after0_2, after0_3, after0_4, after0_5, after0_6, after0_7]
  rw [show (dats m hO 0 c).Φ t.succ = PhiS m hO c (t.val + 1) t.isLt from rfl, PhiS_succ, PhiT0_eq]
  have hN : t.val < 72 := lt_of_lt_of_eq t.isLt (show (cfgM m hO).N = 72 from N_0)
  by_cases h0 : t.val % 72 = 0
  · by_cases hz : t.val = 0
    · rw [PhiS_castSucc m hO c t, PhiS_zero m hO c _ _ hz, PhiT0_eq, PhiA0_eq]
      rw [outsAt0_A m hO c t h0]
      unfold out0_A_6 out0_A_7 sout0_A_0; (try dsimp only)
      iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (tbl m 0)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      isplitl [HT0]; · iexact HT0
      iintro ⟨H0, H1, H2, H3, H4, H5, ⟨%e6, H6⟩, ⟨%e7, H7⟩, ⟨%es0, HS0⟩, ⟨%fT1, HS1⟩, HT0⟩
      isplitl [HS0 HS1 Hg HT0]
      · isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _)
            iexists _; unfold owns; iexists _; isplitr
            swap; · iexact HS1
            ipureintro; rfl
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _ _ _ _ _ _ _)
    · exfalso; have hN : t.val < 72 := lt_of_lt_of_eq t.isLt (show (cfgM m hO).N = 72 from N_0); omega
  · by_cases hz : t.val = 0
    · exfalso; have hN : t.val < 72 := lt_of_lt_of_eq t.isLt (show (cfgM m hO).N = 72 from N_0); omega
    · rw [PhiS_castSucc m hO c t, PhiS_pos m hO c _ _ hz, PhiT0_eq]
      rw [outsAt0_B m hO c t h0]
      unfold out0_B_6 out0_B_7 sout0_B_0; (try dsimp only)
      iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ (fun h => h0 ((hcond0_0 t).mp h)) (iblk m hO c 0 t) (iblk m hO c 1 t) (iblk m hO c 2 t) (iblk m hO c 3 t) (iblk m hO c 4 t) (iblk m hO c 5 t) (tbl m 0) _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      isplitl [HT0]; · iexact HT0
      iintro ⟨H0, H1, H2, H3, H4, H5, ⟨%e6, H6⟩, ⟨%e7, H7⟩, HS0, ⟨%fT1, HS1⟩, HT0⟩
      isplitl [HS0 HS1 Hg HT0]
      · isplitl [HS0 HS1 Hg]
        · isplitl [HS0 HS1]
          · isplitl [HS0]
            · iexact HS0
            iexists _; unfold owns; iexists _; isplitr
            swap; · iexact HS1
            ipureintro; rfl
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _)
      unfold owns; iexists _; isplitr
      swap; · iexact H7
      ipureintro; exact View.read_writes_of_cover _ _ _ _ _ (cover0_B_7 c _ _ _ _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1⟩, Hg⟩, -⟩
  isplitl [HS0 HS1]
  · isplitl [HS0]
    · iexists _; iexact HS0
    iexact HS1
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 72 := N_0; omega)

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO)

/-- THE FRAME: `Cert.quiescent_ScoresIdeal`'s statement (Defs.lean) at any `F` — Proof.lean cites it at `Bits`:
    `theorem Cert.Proof.claim : Cert.Claim := ⟨Cert.ScoresIdeal.Gen.facts, fun m ρ _ => Cert.ScoresIdeal.Gen.frame m ρ⟩`; here for every contents of the PREFETCHED TABLES, UNDER `Gen.Ok m` (the pipeline's side condition of
    them), which Proof.lean proves from the precondition: `⟨…, fun m ρ h => Cert.ScoresIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.ScoresIdeal.Gen

end
-- ==== Proof.OutPure.lean ====
module

public import proofs.«01_k».proof.Proof.Gen.OutIdeal.Value
public import proofs.«01_k».proof.Proof.Gen.OutRefIdeal.Run
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutIdeal.Pure

open Cert.OutIdeal Cert.OutIdeal.Gen

/-- The products of one 128-lane tile `j` of half `i` of the histogram: row `r` of a block of the
    histogram against column `n` of the codebook. -/
def tile (i : Fin 2) (x0 : FVec Ideal S96x64x128 .f32) (x1 : FVec Ideal S2x256x4096 .bf16) (r : Fin 96) (n : Fin 256)
    (j : Fin 32) : EReal :=
  ∑ l : Fin 128, x0 (ix3 r ⟨2 * j.val + i.val, by omega⟩ l) * x1 (ix3 i n ⟨128 * j.val + l.val, by omega⟩)

/-- The kernel's accumulator of half 0 after its 16 products, as the body spells it. -/
def acc0 (x0 : FVec Ideal S96x64x128 .f32) (x1 : FVec Ideal S2x256x4096 .bf16) : FVec Ideal S96x256 .f32 :=
  k0_pay32 (k0_pay30 (k0_pay26 (k0_pay24 (k0_pay20 (k0_pay18 (k0_pay14 (k0_pay12 (k0_pay8 (k0_pay6 (k0_pay2 (View.ld x0 r0_0) (View.ld x0 r0_1) (View.ld x1 r0_2)) (k0_pay4 (View.ld x0 r0_6) (View.ld x0 r0_7)) (View.ld x1 r0_8) (View.ld x0 r0_12) (View.ld x0 r0_13) (View.ld x1 r0_14)) (View.ld x0 r0_18) (View.ld x0 r0_19) (View.ld x1 r0_20)) (k0_pay10 (View.ld x0 r0_24) (View.ld x0 r0_25)) (View.ld x1 r0_26) (View.ld x0 r0_30) (View.ld x0 r0_31) (View.ld x1 r0_32)) (View.ld x0 r0_36) (View.ld x0 r0_37) (View.ld x1 r0_38)) (k0_pay16 (View.ld x0 r0_42) (View.ld x0 r0_43)) (View.ld x1 r0_44) (View.ld x0 r0_48) (View.ld x0 r0_49) (View.ld x1 r0_50)) (View.ld x0 r0_54) (View.ld x0 r0_55) (View.ld x1 r0_56)) (k0_pay22 (View.ld x0 r0_60) (View.ld x0 r0_61)) (View.ld x1 r0_62) (View.ld x0 r0_66) (View.ld x0 r0_67) (View.ld x1 r0_68)) (View.ld x0 r0_72) (View.ld x0 r0_73) (View.ld x1 r0_74)) (k0_pay28 (View.ld x0 r0_78) (View.ld x0 r0_79)) (View.ld x1 r0_80) (View.ld x0 r0_84) (View.ld x0 r0_85) (View.ld x1 r0_86)) (View.ld x0 r0_90) (View.ld x0 r0_91) (View.ld x1 r0_92)

/-- The kernel's accumulator of half 1 after its 16 products, as the body spells it. -/
def acc1 (x0 : FVec Ideal S96x64x128 .f32) (x1 : FVec Ideal S2x256x4096 .bf16) : FVec Ideal S96x256 .f32 :=
  k0_pay33 (k0_pay29 (k0_pay27 (k0_pay23 (k0_pay21 (k0_pay17 (k0_pay15 (k0_pay11 (k0_pay9 (k0_pay5 (k0_pay3 (View.ld x0 r0_3) (View.ld x0 r0_4) (View.ld x1 r0_5)) (View.ld x0 r0_9) (View.ld x0 r0_10) (View.ld x1 r0_11)) (k0_pay7 (View.ld x0 r0_15) (View.ld x0 r0_16)) (View.ld x1 r0_17) (View.ld x0 r0_21) (View.ld x0 r0_22) (View.ld x1 r0_23)) (View.ld x0 r0_27) (View.ld x0 r0_28) (View.ld x1 r0_29)) (k0_pay13 (View.ld x0 r0_33) (View.ld x0 r0_34)) (View.ld x1 r0_35) (View.ld x0 r0_39) (View.ld x0 r0_40) (View.ld x1 r0_41)) (View.ld x0 r0_45) (View.ld x0 r0_46) (View.ld x1 r0_47)) (k0_pay19 (View.ld x0 r0_51) (View.ld x0 r0_52)) (View.ld x1 r0_53) (View.ld x0 r0_57) (View.ld x0 r0_58) (View.ld x1 r0_59)) (View.ld x0 r0_63) (View.ld x0 r0_64) (View.ld x1 r0_65)) (k0_pay25 (View.ld x0 r0_69) (View.ld x0 r0_70)) (View.ld x1 r0_71) (View.ld x0 r0_75) (View.ld x0 r0_76) (View.ld x1 r0_77)) (View.ld x0 r0_81) (View.ld x0 r0_82) (View.ld x1 r0_83)) (k0_pay31 (View.ld x0 r0_87) (View.ld x0 r0_88)) (View.ld x1 r0_89) (View.ld x0 r0_93) (View.ld x0 r0_94) (View.ld x1 r0_95)

/-- A sum of 32 terms, taken in pairs as the kernel adds them. -/
theorem sum32 (f : Fin 32 → EReal) : ∑ j, f j =
    f 0 + f 1 + (f 2 + f 3) + (f 4 + f 5) + (f 6 + f 7) + (f 8 + f 9) + (f 10 + f 11) + (f 12 + f 13) + (f 14 + f 15)
      + (f 16 + f 17) + (f 18 + f 19) + (f 20 + f 21) + (f 22 + f 23) + (f 24 + f 25) + (f 26 + f 27) + (f 28 + f 29)
      + (f 30 + f 31) := by
  simp only [Fin.sum_univ_castSucc, Fin.sum_univ_zero, zero_add, ← add_assoc]; rfl

set_option maxHeartbeats 1600000 in
/-- The accumulator of half 0 is the sum of its 32 tiles. -/
theorem acc0_at (x0 : FVec Ideal S96x64x128 .f32) (x1 : FVec Ideal S2x256x4096 .bf16) (r : Fin 96) (n : Fin 256) :
    acc0 x0 x1 (ix2 r n) = ∑ j, tile 0 x0 x1 r n j := by
  rw [sum32]
  unfold acc0
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
  simp only [← Nat.add_assoc, Nat.reduceAdd]
  unfold tile
  rfl

set_option maxHeartbeats 1600000 in
/-- The accumulator of half 1 is the sum of its 32 tiles. -/
theorem acc1_at (x0 : FVec Ideal S96x64x128 .f32) (x1 : FVec Ideal S2x256x4096 .bf16) (r : Fin 96) (n : Fin 256) :
    acc1 x0 x1 (ix2 r n) = ∑ j, tile 1 x0 x1 r n j := by
  rw [sum32]
  unfold acc1
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
  simp only [← Nat.add_assoc, Nat.reduceAdd]
  unfold tile
  rfl

/-- The KV head of row `r` of a block, as the body computes it (12 query heads to a batch row, 3 to a KV head). -/
def kvs : IVec S96x64 32 := k0_pay37 (Scalar.select (Scalar.cmpi .eq 12#32 0#32) 1#32 12#32) k0_pay34 k0_pay35 k0_pay36 0#32

/-- It is `r % 12 / 3`. -/
theorem kvs_at (r : Fin 96) (d : Fin 64) : kvs (ix2 r d) = BitVec.ofNat 32 (r.val % 12 / 3) := by
  unfold kvs
  pointwise [k0_pay34, k0_pay35, k0_pay36, k0_pay37]
  revert r; decide

/-- One block of the result, from the two accumulators: per half, the lanes of the row's own KV head, plus the
    new token's share. -/
def fin (a0 a1 : FVec Ideal S96x256 .f32) (x2 : FVec Ideal S96x128 .f32) : FVec Ideal S96x128 .bf16 :=
  k0_pay1 a1 kvs (k0_pay38 a0 (Scalar.select (Scalar.cmpi .eq 12#32 0#32) 1#32 12#32) k0_pay34 k0_pay35 k0_pay36 0#32)
    (k0_pay39 a1) (k0_pay40 (Scalar.select (Scalar.cmpi .eq 12#32 0#32) 1#32 12#32) k0_pay34 k0_pay35 k0_pay36 0#32)
    (k0_pay41 a1) (View.ld x2 r0_96)

/-- The select ladder over the four KV heads picks the lanes of head `k`. -/
theorem pick (a : FVec Ideal S96x256 .f32) (r : Fin 96) (d : Fin 64) (k : ℕ) (hk : k < 4) :
    Scalar.select (IntOp.cmpi .eq (BitVec.ofNat 32 k) 3#32) (a (ix2 r ⟨192 + d.val, by omega⟩))
      (Scalar.select (IntOp.cmpi .eq (BitVec.ofNat 32 k) 2#32) (a (ix2 r ⟨128 + d.val, by omega⟩))
        (Scalar.select (IntOp.cmpi .eq (BitVec.ofNat 32 k) 1#32) (a (ix2 r ⟨64 + d.val, by omega⟩))
          (a (ix2 r ⟨d.val, by omega⟩)))) = a (ix2 r ⟨64 * k + d.val, by omega⟩) := by
  have : k = 0 ∨ k = 1 ∨ k = 2 ∨ k = 3 := by omega
  rcases this with rfl | rfl | rfl | rfl
  · have e : (⟨64 * 0 + d.val, by omega⟩ : Fin 256) = ⟨d.val, by omega⟩ := by ext; simp
    rw [e]; rfl
  all_goals rfl

/-- A block's value in half 0. -/
theorem fin_at0 (a0 a1 : FVec Ideal S96x256 .f32) (x2 : FVec Ideal S96x128 .f32) (r : Fin 96) (d : Fin 64) :
    fin a0 a1 x2 (ix2 r ⟨d.val, by omega⟩) = a0 (ix2 r ⟨64 * (r.val % 12 / 3) + d.val, by omega⟩)
      + x2 (ix2 r ⟨d.val, by omega⟩) := by
  have hk := kvs_at r d
  unfold fin
  unfold k0_pay38 k0_pay40
  change (k0_pay37 _ _ _ _ _) _ = _ at hk
  have hlt : r.val % 12 / 3 < 4 := by omega
  generalize k0_pay37 (Scalar.select (Scalar.cmpi .eq 12#32 0#32) 1#32 12#32) k0_pay34 k0_pay35 k0_pay36 0#32 = kv at *
  pointwise [k0_pay1, k0_pay39, k0_pay41, kvs]
  rw [hk, pick _ _ _ _ hlt]

/-- A block's value in half 1. -/
theorem fin_at1 (a0 a1 : FVec Ideal S96x256 .f32) (x2 : FVec Ideal S96x128 .f32) (r : Fin 96) (d : Fin 64) :
    fin a0 a1 x2 (ix2 r ⟨64 + d.val, by omega⟩) = a1 (ix2 r ⟨64 * (r.val % 12 / 3) + d.val, by omega⟩)
      + x2 (ix2 r ⟨64 + d.val, by omega⟩) := by
  have hk := kvs_at r d
  unfold fin kvs at *
  unfold k0_pay38 k0_pay40
  have hlt : r.val % 12 / 3 < 4 := by omega
  generalize k0_pay37 (Scalar.select (Scalar.cmpi .eq 12#32 0#32) 1#32 12#32) k0_pay34 k0_pay35 k0_pay36 0#32 = kv at *
  pointwise [k0_pay1, k0_pay39, k0_pay41]
  rw [hk, pick _ _ _ _ hlt]

/-- The body's stored block is `fin` of the two accumulators. -/
theorem out_eq (x0 : FVec Ideal S96x64x128 .f32) (x1 : FVec Ideal S2x256x4096 .bf16) (x2 : FVec Ideal S96x128 .f32) :
    out0_3 (F := Ideal) x0 x1 x2 = fin (acc0 x0 x1) (acc1 x0 x1) x2 := by
  unfold out0_3 k0_pay45 k0_pay44 k0_pay43 k0_pay42
  exact View.canon_unit_zero (funext fun a => by fin_cases a <;> rfl) _ _

/-- THE BLOCK: row `r`, lane `64 i + d` of a stored block is the row's products with the codebook columns of its own KV
    head, summed over the half's 32 tiles, plus the new token's share. -/
theorem out_at (x0 : FVec Ideal S96x64x128 .f32) (x1 : FVec Ideal S2x256x4096 .bf16) (x2 : FVec Ideal S96x128 .f32)
    (r : Fin 96) (i : Fin 2) (d : Fin 64) :
    out0_3 (F := Ideal) x0 x1 x2 (ix2 r ⟨64 * i.val + d.val, by omega⟩)
      = (∑ j, tile i x0 x1 r ⟨64 * (r.val % 12 / 3) + d.val, by omega⟩ j) + x2 (ix2 r ⟨64 * i.val + d.val, by omega⟩) := by
  rw [out_eq]
  match i with
  | ⟨0, _⟩ =>
    have e : (⟨64 * 0 + d.val, by omega⟩ : Fin 128) = ⟨d.val, by omega⟩ := by ext; simp
    rw [show (⟨64 * (⟨0, by omega⟩ : Fin 2).val + d.val, by omega⟩ : Fin 128) = ⟨d.val, by omega⟩ from e, fin_at0, acc0_at]
    rfl
  | ⟨1, _⟩ => exact (fin_at1 _ _ _ r d).trans (by rw [acc1_at]; rfl)

end Cert.OutIdeal.Pure

end
-- ==== Proof.OutValue.lean ====
module

public import proofs.«01_k».proof.Proof.OutPure

@[expose] public section

set_option maxRecDepth 16384

noncomputable section

open Idealize.ShloMosaic Idealize.ShloMosaic.TcCoe Idealize.SL.Sem
open Idealize.ShloMosaic.Pipeline (Dat)

namespace Cert.OutIdeal.RefValue

open Cert.OutIdeal Cert.OutIdeal.Gen

/-- The reference's composed term: the histogram brought to (sequence, KV head, query, half, code), multiplied with
    the codebook over the codes, plus the new token's share. -/
def REF (f : FVec Ideal S7077888 .f32) (w : FVec Ideal S4x2x4096x64 .bf16) (o : FVec Ideal S72x16x128 .f32) :
    FVec Ideal S864x128 .bf16 :=
  truncf .bf16 (shapeCast _ (addf (shapeCast _ (transpose Cert.OutRefIdeal.S72x4x3x2x64 [3, 0, 4, 1, 2] (Host.dotGeneral Cert.OutRefIdeal.dot_S4x2x4096x64_S72x4x3x2x4096_S4x2x64x72x3_2_4_3_02_01_13 none w (truncf .bf16 (shapeCast _ (transpose Cert.OutRefIdeal.S72x4x3x2x32x128 [0, 1, 2, 4, 3, 5] (shapeCast _ f Cert.OutRefIdeal.Gen.shapeCasts_S7077888_S72x4x3x32x2x128) Cert.OutRefIdeal.Gen.transposes_S72x4x3x32x2x128_S72x4x3x2x32x128_0_1_2_4_3_5) Cert.OutRefIdeal.Gen.shapeCasts_S72x4x3x2x32x128_S72x4x3x2x4096) Cert.OutRefIdeal.Gen.bitsLt_bf16_f32)) Cert.OutRefIdeal.Gen.transposes_S4x2x64x72x3_S72x4x3x2x64_3_0_4_1_2) Cert.OutRefIdeal.Gen.shapeCasts_S72x4x3x2x64_S72x4x3x128) (extractStridedSlice Cert.OutRefIdeal.S72x4x3x128 ![0, 0, 0, 0] (shapeCast _ o Cert.OutRefIdeal.Gen.shapeCasts_S72x16x128_S72x4x4x128) Cert.OutRefIdeal.Gen.slices_S72x4x4x128_S72x4x3x128_0_0_0_0)) Cert.OutRefIdeal.Gen.shapeCasts_S72x4x3x128_S864x128) Cert.OutRefIdeal.Gen.bitsLt_bf16_f32

variable (m : (ℓ : Loc nD τ sig) → Buf (Elt Ideal) ℓ)

theorem idx : ∀ t : Fin cfg0.N, win0_0.index t = ![t.val, 0, 0] ∧ win0_1.index t = ![0, 0, 0]
    ∧ win0_2.index t = ![t.val, 0] ∧ win0_3.index t = ![t.val, 0] :=
  (by decide +kernel : ∀ t : Fin grid0.N, _)

/-- There are nine grid points. -/
theorem lt9 (t : Fin cfg0.N) : t.val < 9 := N_0 ▸ t.isLt

/-- The reference at row `R = 12 b + 3 kv + g`, lane `64 i + d`: the products with the codebook of head `R / 3 % 4`
    summed over the 4096 codes, plus the new token's share. -/
theorem ref_at (f : FVec Ideal S7077888 .f32) (w : FVec Ideal S4x2x4096x64 .bf16) (o : FVec Ideal S72x16x128 .f32)
    (R : Fin 864) (i : Fin 2) (d : Fin 64) : REF f w o (ix2 R ⟨64 * i.val + d.val, by omega⟩)
      = (∑ x : Fin 4096, w (ix4 ⟨R.val / 3 % 4, by omega⟩ i x d)
          * f (ix1 ⟨R.val / 12 * 98304 + R.val / 3 % 4 * 24576 + R.val % 3 * 8192 + x.val / 128 * 256 + i.val * 128
              + x.val % 128, by omega⟩))
        + o (ix3 ⟨R.val / 12, by omega⟩ ⟨R.val / 3 % 4 * 4 + R.val % 3, by omega⟩ ⟨64 * i.val + d.val, by omega⟩) := by
  pointwise [REF]

/-- The histogram's block at point `t`: 96 rows of 64 tiles of 128, read from the flat argument. -/
theorem in0 (c : Dev nD) (t : Fin cfg0.N) (r : Fin 96) (k : Fin 64) (l : Fin 128) :
    iblk m c 0 t (ix3 r k l) = m ((c : Thread nD τ).loc main_arg0)
      (ix1 ⟨(96 * t.val + r.val) * 8192 + k.val * 128 + l.val, by have := lt9 t; omega⟩) := by
  blk_simp [iblk, idx t]
  entry_read
  pointwise []
  blk_ext [idx t]

/-- The codebook's block: the whole transposed codebook at every point. -/
theorem in1 (c : Dev nD) (t : Fin cfg0.N) (i : Fin 2) (k : Fin 256) (l : Fin 4096) :
    iblk m c 1 t (ix3 i k l) = m ((c : Thread nD τ).loc main_arg1)
      (ix4 ⟨k.val / 64, by omega⟩ i l ⟨k.val % 64, by omega⟩) := by
  blk_simp [iblk, idx t]
  entry_read
  pointwise []
  blk_ext [idx t]

/-- The new token's share's block at point `t`. -/
theorem in2 (c : Dev nD) (t : Fin cfg0.N) (r : Fin 96) (l : Fin 128) :
    iblk m c 2 t (ix2 r l) = m ((c : Thread nD τ).loc main_arg2)
      (ix3 ⟨(96 * t.val + r.val) / 12, by have := lt9 t; omega⟩
        ⟨(96 * t.val + r.val) / 3 % 4 * 4 + (96 * t.val + r.val) % 3, by omega⟩ l) := by
  blk_simp [iblk, idx t]
  entry_read
  pointwise []
  blk_ext [idx t]

/-- One product of the block's sum is the reference's product at code `128 j + l`. -/
theorem cell (c : Dev nD) (t : Fin cfg0.N) (r : Fin 96) (i : Fin 2) (d : Fin 64) (j : Fin 32) (l : Fin 128)
    (R : Fin 864) (hR : R.val = 96 * t.val + r.val) :
    iblk m c 0 t (ix3 r ⟨2 * j.val + i.val, by omega⟩ l)
        = m ((c : Thread nD τ).loc main_arg0) (ix1 ⟨R.val / 12 * 98304 + R.val / 3 % 4 * 24576 + R.val % 3 * 8192
            + (j.val * 128 + l.val) / 128 * 256 + i.val * 128 + (j.val * 128 + l.val) % 128, by omega⟩)
      ∧ iblk m c 1 t (ix3 i ⟨64 * (r.val % 12 / 3) + d.val, by omega⟩ ⟨128 * j.val + l.val, by omega⟩)
        = m ((c : Thread nD τ).loc main_arg1) (ix4 ⟨R.val / 3 % 4, by omega⟩ i ⟨j.val * 128 + l.val, by omega⟩ d) := by
  have h9 := lt9 t
  refine ⟨(in0 m c t r _ l).trans (congrArg _ (congrArg ix1 (Fin.ext ?_))),
    (in1 m c t i _ _).trans (congrArg _ ?_)⟩
  · dsimp only; omega
  · have e1 : (⟨(64 * (r.val % 12 / 3) + d.val) / 64, by omega⟩ : Fin 4) = ⟨R.val / 3 % 4, by omega⟩ :=
      Fin.ext (by dsimp only; omega)
    have e2 : (⟨(64 * (r.val % 12 / 3) + d.val) % 64, by omega⟩ : Fin 64) = d := Fin.ext (by dsimp only; omega)
    have e3 : (⟨128 * j.val + l.val, by omega⟩ : Fin 4096) = ⟨j.val * 128 + l.val, by omega⟩ :=
      Fin.ext (by dsimp only; omega)
    rw [e1, e2, e3]

set_option maxHeartbeats 800000 in
/-- Row `r`, lane `64 i + d` of the block point `t` stores is the reference at row `R = 96 t + r`. -/
theorem point (c : Dev nD) (t : Fin cfg0.N) (r : Fin 96) (i : Fin 2) (d : Fin 64) (R : Fin 864)
    (hR : R.val = 96 * t.val + r.val) :
    out0_3 (F := Ideal) (iblk m c 0 t) (iblk m c 1 t) (iblk m c 2 t) (ix2 r ⟨64 * i.val + d.val, by omega⟩)
      = REF (m ((c : Thread nD τ).loc main_arg0)) (m ((c : Thread nD τ).loc main_arg1)) (m ((c : Thread nD τ).loc main_arg2))
          (ix2 R ⟨64 * i.val + d.val, by omega⟩) := by
  rw [Pure.out_at, ref_at, Fin.sum_univ_tiles 32 128 rfl]
  refine congrArg₂ (· + ·) (Finset.sum_congr rfl fun j _ => Finset.sum_congr rfl fun l _ => ?_) ?_
  · exact (congrArg₂ (HMul.hMul (α := EReal) (β := EReal)) (cell m c t r i d j l R hR).1 (cell m c t r i d j l R hR).2).trans (mul_comm _ _)
  · refine (in2 m c t r _).trans (congrArg _ ?_)
    simp only [hR]

/-- The result array after the run is the reference's term of the arguments. -/
theorem final (c : Dev nD) : (dats m 0 c).arrAt 3 cfg0.N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  have h9 := lt9 t
  idx_vars y
  obtain ⟨i, d, hD⟩ : ∃ (i : Fin 2) (d : Fin 64), (⟨64 * i.val + d.val, by omega⟩ : Fin 128) = y1 :=
    ⟨⟨y1.val / 64, by omega⟩, ⟨y1.val % 64, by omega⟩, Fin.ext (by dsimp only; omega)⟩
  subst hD
  refine (point m c t y0 i d ⟨96 * t.val + y0.val, by omega⟩ rfl).trans (congrArg _ ?_)
  blk_ext [idx t]

end Cert.OutIdeal.RefValue

end
-- ==== Proof.ScoresCanon.lean ====
module

public import proofs.«01_k».proof.Proof.ScoresIdeal.Frame
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.ShloMosaic.Tactic Idealize.SL.Sem
open Idealize.ShloMosaic.Pipeline (Dat)

namespace Cert.ScoresIdeal.Canon

open Cert.ScoresIdeal Cert.ScoresIdeal.Gen

variable {F : FTy → Type} [FloatOps F]

/-- The lane's number. -/
def lane : IVec S16x128 32 := iota .tc S16x128 32 [1] iota_S16x128_d1_w32

/-- The lane's quarter, `lane / 32` as the body computes a floor division. -/
def quarter : IVec S16x128 32 :=
  select (andi (cmpi .ne (subi (extui 32 (cmpi .sgt lane (broadcast S16x128 0#32)) natLt_1_32) (extui 32 (cmpi .slt lane (broadcast S16x128 0#32)) natLt_1_32))
      (broadcast S16x128 (Scalar.subi (Scalar.extui (Scalar.cmpi .sgt 32#32 0#32)) (Scalar.extui (Scalar.cmpi .slt 32#32 0#32)))))
    (cmpi .ne (remsi lane (broadcast S16x128 32#32)) (broadcast S16x128 0#32)))
    (subi (divsi lane (broadcast S16x128 32#32)) (broadcast S16x128 1#32)) (divsi lane (broadcast S16x128 32#32))

/-- The column a lane picks out of 128 products: token `lane % 32`, kv head `row / 4`. -/
def pick : IVec S16x128 32 :=
  k0_pay125 lane k0_pay123 (Scalar.select (Scalar.cmpi .eq 32#32 0#32) 1#32 32#32) k0_pay124

/-- The lanes' picks out of 128 products. -/
def gath (s : FVec F S16x128 .f32) : FVec F S16x128 .f32 :=
  dynamicGather 1 s (shapeCast S16x128 (shapeCast S16x128x1 (select (cmpi .slt pick (broadcast S16x128 0#32)) (addi pick (broadcast S16x128 128#32)) pick)
    shapeCasts_S16x128_S16x128x1) shapeCasts_S16x128x1_S16x128)

/-- The picks out of four times 128 products, by the lane's quarter. -/
def acc (s0 s1 s2 s3 : FVec F S16x128 .f32) : FVec F S16x128 .f32 :=
  select (cmpi .eq quarter (broadcast S16x128 3#32)) (gath s3)
    (select (cmpi .eq quarter (broadcast S16x128 2#32)) (gath s2)
      (select (cmpi .eq quarter (broadcast S16x128 1#32)) (gath s1) (gath s0)))

/-- The four kv heads' rows laid on the sixteen query rows, each on its group of four. -/
def expandV (v : FVec F S4x128 .f32) : FVec F S16x128 .f32 :=
  select (cmpi .eq k0_pay123 (broadcast S16x128 2#32)) (broadcastTo S16x128 (shapeCast S1x128 (extractStridedSlice S1x128 ![2, 0] v slices_S4x128_o2_0_S1x128) shapeCasts_S1x128_S1x128) broadcasts_S1x128_S16x128)
    (select (cmpi .eq k0_pay123 (broadcast S16x128 1#32)) (broadcastTo S16x128 (shapeCast S1x128 (extractStridedSlice S1x128 ![1, 0] v slices_S4x128_o1_0_S1x128) shapeCasts_S1x128_S1x128) broadcasts_S1x128_S16x128)
      (select (cmpi .eq k0_pay123 (broadcast S16x128 0#32)) (broadcastTo S16x128 (shapeCast S1x128 (extractStridedSlice S1x128 ![0, 0] v slices_S4x128_o0_0_S1x128) shapeCasts_S1x128_S1x128) broadcasts_S1x128_S16x128)
        (broadcastTo S16x128 (shapeCast S1x128 (extractStridedSlice S1x128 ![3, 0] v slices_S4x128_o3_0_S1x128) shapeCasts_S1x128_S1x128) broadcasts_S1x128_S16x128)))

/-- The new token's scores: the queries times the new key, summed, scaled. -/
def newScore (q : FVec F S16x128 .f32) (kn : FVec F S1x4x128 .bf16) : FVec F S16x1 .f32 :=
  mulf (shapeCast S16x1 (multiReduction .add [1] S16 (mulf q (expandV (extf .f32 (shapeCast S4x128 kn shapeCasts_S1x4x128_S4x128) bitsLt_bf16_f32)))
    0x00000000#32 reduces_S16x128_S16 (.inl rfl) rfl) shapeCasts_S16_S16x1) (broadcast S16x1 (Scalar.ofBits .f32 0x3DB504F3#32))

/-- Columns `128 i …` of the half of the products that tile `T`'s tokens stand in. -/
def part (T : Fin 16) (i : Fin 4) (S : FVec F S32x1024 .f32) : FVec F S16x128 .f32 :=
  extractStridedSlice S16x128 ![16 * (T.val / 2 % 2), 512 * (T.val % 2) + 128 * i.val] S
    ⟨rfl, fun a => by
      have := T.isLt; have := i.isLt
      match a with
      | ⟨0, _⟩ => show 16 * (T.val / 2 % 2) + 16 ≤ 32; omega
      | ⟨1, _⟩ => show 512 * (T.val % 2) + 128 * i.val + 128 ≤ 1024; omega⟩

/-- A load of the codes block: its `k`-th run of 1024 rows. -/
def rdK (b : Memref sig .tc .vmem S1x8192x128 .fp8e4m3) (hb : b.IsWhole) (x3 : FVec F S1x8192x128 .fp8e4m3) (k : Fin 8) : FVec F S1x1024x128 .fp8e4m3 :=
  View.readAt (Elt F) b.view (Rect.unit (s := S1x8192x128) ![0, 1024 * k.val, 0] S1x1024x128.size (fun a => by
    have := k.isLt
    match a with
    | ⟨0, _⟩ => show 0 + 1 ≤ 1; omega
    | ⟨1, _⟩ => show 1024 * k.val + 1024 ≤ 8192; omega
    | ⟨2, _⟩ => show 0 + 128 ≤ 128; omega)).toLoadRect (hb.unread x3)

/-- A load of the scales block: tile `T` of 128 tokens. -/
def rdC (b : Memref sig .tc .vmem S1x4x2048 .f32) (hb : b.IsWhole) (x4 : FVec F S1x4x2048 .f32) (T : Fin 16) : FVec F S1x4x128 .f32 :=
  View.readAt (Elt F) b.view (Rect.unit (s := S1x4x2048) ![0, 0, 128 * T.val] S1x4x128.size (fun a => by
    have := T.isLt
    match a with
    | ⟨0, _⟩ => show 0 + 1 ≤ 1; omega
    | ⟨1, _⟩ => show 0 + 4 ≤ 4; omega
    | ⟨2, _⟩ => show 128 * T.val + 128 ≤ 2048; omega)).toLoadRect (hb.unread x4)

/-- The products of the queries, twice on a block diagonal, with chunk `c` of 512 tokens. -/
def prod (b : Memref sig .tc .vmem S1x8192x128 .fp8e4m3) (hb : b.IsWhole) (q : FVec F S16x128 .f32) (x3 : FVec F S1x8192x128 .fp8e4m3) (c : Fin 4) : FVec F S32x1024 .f32 :=
  k0_pay131 (k0_pay122 q) (rdK b hb x3 ⟨2 * c.val, by omega⟩) (rdK b hb x3 ⟨2 * c.val + 1, by omega⟩)

/-- The masked scores of tile `T`'s 128 tokens. -/
def tile (b5 : Memref sig .tc .vmem S1x8192x128 .fp8e4m3) (hb5 : b5.IsWhole) (b6 : Memref sig .tc .vmem S1x4x2048 .f32) (hb6 : b6.IsWhole)
    (n : BitVec 32) (q : FVec F S16x128 .f32) (x3 : FVec F S1x8192x128 .fp8e4m3) (x4 : FVec F S1x4x2048 .f32) (T : Fin 16) : FVec F S16x128 .f32 :=
  select (cmpi .slt (addi lane (broadcast S16x128 (BitVec.ofNat 32 (128 * T.val)))) (broadcast S16x128 n))
    (mulf (acc (part T 0 (prod b5 hb5 q x3 ⟨T.val / 4, by omega⟩)) (part T 1 (prod b5 hb5 q x3 ⟨T.val / 4, by omega⟩))
        (part T 2 (prod b5 hb5 q x3 ⟨T.val / 4, by omega⟩)) (part T 3 (prod b5 hb5 q x3 ⟨T.val / 4, by omega⟩)))
      (expandV (mulf (shapeCast S4x128 (rdC b6 hb6 x4 T) shapeCasts_S1x4x128_S4x128) (broadcast S4x128 (Scalar.ofBits .f32 0x3DB504F3#32)))))
    (broadcast S16x128 (Scalar.ofBits .f32 0xFF800000#32))

/-- The running maximum over the sixteen tiles. -/
def top (s : Fin 16 → FVec F S16x128 .f32) : FVec F S16x128 .f32 :=
  maximumf (maximumf (maximumf (maximumf (maximumf (maximumf (maximumf (maximumf (maximumf (maximumf (maximumf (maximumf (maximumf (maximumf (maximumf (maximumf
    (broadcast S16x128 (Scalar.ofBits .f32 0xFF800000#32)) (s 0)) (s 1)) (s 2)) (s 3)) (s 4)) (s 5)) (s 6)) (s 7)) (s 8)) (s 9)) (s 10)) (s 11)) (s 12)) (s 13)) (s 14)) (s 15)

/-- A row's maximum: over the lanes of the running maximum, and the new token's score. -/
def rowMax (s : Fin 16 → FVec F S16x128 .f32) (new : FVec F S16x1 .f32) : FVec F S16x1 .f32 :=
  maximumf (shapeCast S16x1 (multiReduction .maximumf [1] S16 (top s) 0xFF800000#32 reduces_S16x128_S16 (.inl rfl) rfl) shapeCasts_S16_S16x1) new

/-- The rectangle of tile `T` in the score scratch. -/
def rect (T : Fin 16) : Rect S16x2048 := Rect.unit ![0, 128 * T.val] S16x128.size (fun a => by
    have := T.isLt
    match a with
    | ⟨0, _⟩ => show 0 + 16 ≤ 16; omega
    | ⟨1, _⟩ => show 128 * T.val + 128 ≤ 2048; omega)

/-- A tile as the scratch stores it. -/
def stored (v : FVec F S16x128 .f32) : FVec F S16x128 .f32 := shapeCast S16x128 v shapeCasts_S16x128_S16x128

variable (c : Dev nD) (arg3 : Memref sig .tc .vmem S1x4x128 .bf16) (harg3 : arg3.IsWhole) (arg4 : Memref sig .tc .vmem S1x4x128 .bf16) (harg4 : arg4.IsWhole) (arg5 : Memref sig .tc .vmem S1x8192x128 .fp8e4m3) (harg5 : arg5.IsWhole) (arg6 : Memref sig .tc .vmem S1x4x2048 .f32) (harg6 : arg6.IsWhole) (arg7 : Memref sig .tc .vmem S1x3x4x2048 .i8) (harg7 : arg7.IsWhole) (arg11 : Memref sig .tc .vmem S16x2048 .f32) (v4 : Elt F .i32) (v8 : Vec F S16x128 .f32) (x1 : Vec F S1x4x128 .bf16) (x2 : Vec F S1x4x128 .bf16) (x3 : Vec F S1x8192x128 .fp8e4m3) (x4 : Vec F S1x4x2048 .f32) (x5 : Vec F S1x3x4x2048 .i8)

/-- The new key as loaded. -/
def rdN (b : Memref sig .tc .vmem S1x4x128 .bf16) (hb : b.IsWhole) (x : FVec F S1x4x128 .bf16) : FVec F S1x4x128 .bf16 :=
  View.readAt (Elt F) b.view (Rect.unit ![0, 0, 0] S1x4x128.size inb_S1x4x128_S1x4x128_0_0_0).toLoadRect (hb.unread x)

/-- The body's new scores are `newScore`. -/
theorem new_eq : tailRun.sl.r_3 c arg3 harg3 v8 x1 = newScore v8 (rdN arg3 harg3 x1) := by sl_kernel_rfl

/-- What the scratch holds after the sixteen score tiles. -/
theorem tiles_eq : tailRun.sl.HS1_16 c arg3 harg3 arg5 harg5 arg6 harg6 v4 v8 x1 x3 x4
    = ([15, 14, 13, 12, 11, 10, 9, 8, 7, 6, 5, 4, 3, 2, 1, 0] : List (Fin 16)).map fun T =>
        (⟨rect T, stored (tile arg5 harg5 arg6 harg6 v4 v8 x3 x4 T)⟩ : View.Piece (Elt F) S16x2048 .f32) := by sl_kernel_rfl

/-- The body's row maxima are `rowMax`. -/
theorem max_eq : tailRun.sl.r_190 c arg3 harg3 arg5 harg5 arg6 harg6 v4 v8 x1 x3 x4
    = rowMax (tile arg5 harg5 arg6 harg6 v4 v8 x3 x4) (newScore v8 (rdN arg3 harg3 x1)) := by sl_kernel_rfl

end Cert.ScoresIdeal.Canon

end
-- ==== Proof.ScoresSoft.lean ====
module

public import proofs.«01_k».proof.Proof.ScoresCanon
public import Idealize.ShloMosaic.Lib.Pipeline.ReadBack

@[expose] public section

set_option maxRecDepth 16384

noncomputable section

open Idealize.ShloMosaic Idealize.ShloMosaic.TcCoe Idealize.ShloMosaic.Tactic Idealize.SL.Sem
open Idealize.ShloMosaic.Pipeline (Dat)

namespace Cert.ScoresIdeal.Canon

open Cert.ScoresIdeal Cert.ScoresIdeal.Gen

variable {F : FTy → Type} [FloatOps F]

/-- Two different tiles' rectangles are disjoint. -/
theorem rect_disj (T U : Fin 16) (h : T ≠ U) : LoadRect.disj (rect T) (rect U).toLoadRect = true := by
  revert T U; decide +kernel

/-- The pieces that write tile `f T` for each `T` of a list. -/
def pieces (f : Fin 16 → FVec F S16x128 .f32) (l : List (Fin 16)) : List (View.Piece (Elt F) S16x2048 .f32) :=
  l.map fun T => ⟨rect T, f T⟩

/-- A read of tile `T` behind writes of other tiles only. -/
theorem read_skip (b : Memref sig .tc .vmem S16x2048 .f32) (f : Fin 16 → FVec F S16x128 .f32) (T : Fin 16) (rest) :
    ∀ l : List (Fin 16), T ∉ l → b.view.readCov (pieces f l ++ rest) (rect T).toLoadRect = b.view.readCov rest (rect T).toLoadRect
  | [], _ => rfl
  | U :: l, h => by
    refine (View.readCov_skip b.view (rect U) (f U) (pieces f l ++ rest) (rect T).toLoadRect (rect_disj _ _ fun e => h (e ▸ List.mem_cons_self ..))).trans ?_
    exact read_skip b f T rest l fun e => h (List.mem_cons_of_mem _ e)

/-- A read of tile `T` among writes of tiles gives what was written there. -/
theorem read_hit (b : Memref sig .tc .vmem S16x2048 .f32) (f : Fin 16 → FVec F S16x128 .f32) (T : Fin 16) (rest) :
    ∀ l : List (Fin 16), T ∈ l → b.view.readCov (pieces f l ++ rest) (rect T).toLoadRect = f T
  | U :: l, h => by
    rcases Decidable.em (T = U) with e | e
    · rw [e]; exact View.readCov_cons_toLoadRect b.view (rect U) (f U) (pieces f l ++ rest)
    · have hs := read_skip b f T (pieces f l ++ rest) [U] (fun h => e (List.mem_singleton.1 h))
      refine Eq.trans (b := b.view.readCov (pieces f l ++ rest) (rect T).toLoadRect) hs ?_
      exact read_hit b f T rest l ((List.mem_cons.1 h).resolve_left e)

/-- The tile numbers, last first. -/
def down : List (Fin 16) := [15, 14, 13, 12, 11, 10, 9, 8, 7, 6, 5, 4, 3, 2, 1, 0]

/-- A tile of exponentials, from the scores read back and the row maxima. -/
def expo (m : FVec F S16x1 .f32) (v : FVec F S16x128 .f32) : FVec F S16x128 .f32 :=
  exp (subf v (broadcastTo S16x128 m broadcasts_S16x1_S16x128))

/-- The scratch's writes after `k` tiles have been read back and overwritten by their exponentials. -/
def hist (b : Memref sig .tc .vmem S16x2048 .f32) (s : Fin 16 → FVec F S16x128 .f32) (m : FVec F S16x1 .f32) : Nat → List (View.Piece (Elt F) S16x2048 .f32)
  | 0 => pieces (fun T => stored (s T)) down
  | k + 1 => ⟨rect (Fin.ofNat 16 k), stored (expo m (b.view.readCov (hist b s m k) (rect (Fin.ofNat 16 k)).toLoadRect))⟩ :: hist b s m k

/-- The exponentials of tile `T`. -/
def eTile (s : Fin 16 → FVec F S16x128 .f32) (m : FVec F S16x1 .f32) (T : Fin 16) : FVec F S16x128 .f32 := expo m (stored (s T))

/-- The tile numbers below `k`, last first. -/
def downFrom : Nat → List (Fin 16)
  | 0 => []
  | k + 1 => Fin.ofNat 16 k :: downFrom k

theorem not_mem_downFrom : ∀ k : Fin 16, Fin.ofNat 16 k.val ∉ downFrom k.val := by decide +kernel

/-- What the scratch holds after `k` tiles: their exponentials over all the scores. -/
theorem hist_eq (b : Memref sig .tc .vmem S16x2048 .f32) (s : Fin 16 → FVec F S16x128 .f32) (m : FVec F S16x1 .f32) :
    ∀ k : Nat, k ≤ 16 → hist b s m k = pieces (fun T => stored (eTile s m T)) (downFrom k) ++ pieces (fun T => stored (s T)) down
  | 0, _ => rfl
  | k + 1, h => by
    have hk := hist_eq b s m k (by omega)
    have hr : b.view.readCov (hist b s m k) (rect (Fin.ofNat 16 k)).toLoadRect = stored (s (Fin.ofNat 16 k)) := by
      rw [hk, read_skip b _ _ _ _ (not_mem_downFrom ⟨k, by omega⟩)]
      refine (congrArg (fun L => b.view.readCov L (rect (Fin.ofNat 16 k)).toLoadRect) (List.append_nil _).symm).trans ?_
      exact read_hit b _ _ [] down ((by decide +kernel : ∀ T : Fin 16, T ∈ down) _)
    rw [hist, hr, hk]; rfl

/-- The exponentials of the `k`-th tile as the body computes them, from the scratch. -/
def eRead (b : Memref sig .tc .vmem S16x2048 .f32) (s : Fin 16 → FVec F S16x128 .f32) (m : FVec F S16x1 .f32) (k : Nat) : FVec F S16x128 .f32 :=
  expo m (b.view.readCov (hist b s m k) (rect (Fin.ofNat 16 k)).toLoadRect)

theorem eRead_eq (b : Memref sig .tc .vmem S16x2048 .f32) (s : Fin 16 → FVec F S16x128 .f32) (m : FVec F S16x1 .f32) (k : Fin 16) :
    eRead b s m k.val = eTile s m k := by
  unfold eRead eTile
  have e : Fin.ofNat 16 k.val = k := Fin.ext (Nat.mod_eq_of_lt k.isLt)
  rw [hist_eq b s m k.val k.isLt.le, read_skip b _ _ _ _ (not_mem_downFrom k), e]
  refine congrArg (expo m) ((congrArg (fun L => b.view.readCov L (rect k).toLoadRect) (List.append_nil _).symm).trans ?_)
  exact read_hit b _ _ [] down ((by decide +kernel : ∀ T : Fin 16, T ∈ down) _)

/-- After the sixteen tiles, a read of tile `T` gives its exponentials. -/
theorem hist_read (b : Memref sig .tc .vmem S16x2048 .f32) (s : Fin 16 → FVec F S16x128 .f32) (m : FVec F S16x1 .f32) (T : Fin 16) :
    b.view.readCov (hist b s m 16) (rect T).toLoadRect = stored (eTile s m T) := by
  rw [hist_eq b s m 16 le_rfl]
  exact read_hit b _ _ _ (downFrom 16) ((by decide +kernel : ∀ T : Fin 16, T ∈ downFrom 16) _)

/-- The running sum over sixteen tiles. -/
def total (e : Fin 16 → FVec F S16x128 .f32) : FVec F S16x128 .f32 :=
  addf (addf (addf (addf (addf (addf (addf (addf (addf (addf (addf (addf (addf (addf (addf (addf
    (broadcast S16x128 (Scalar.ofBits .f32 0x00000000#32)) (e 0)) (e 1)) (e 2)) (e 3)) (e 4)) (e 5)) (e 6)) (e 7)) (e 8)) (e 9)) (e 10)) (e 11)) (e 12)) (e 13)) (e 14)) (e 15)

/-- A row's sum of exponentials, the new token's added last. -/
def denom (e : Fin 16 → FVec F S16x128 .f32) (new : FVec F S16x1 .f32) : FVec F S16x1 .f32 :=
  addf (shapeCast S16x1 (multiReduction .add [1] S16 (total e) 0x00000000#32 reduces_S16x128_S16 (.inl rfl) rfl) shapeCasts_S16_S16x1) new

/-- Tile `T`'s probabilities. -/
def prob (v : FVec F S16x128 .f32) (dn : FVec F S16x1 .f32) : FVec F S16x128 .f32 :=
  divf v (broadcastTo S16x128 dn broadcasts_S16x1_S16x128)

/-- A load of the code bytes block: byte `i` of tile `T`. -/
def rdB (b : Memref sig .tc .vmem S1x3x4x2048 .i8) (hb : b.IsWhole) (x5 : Vec F S1x3x4x2048 .i8) (i : Fin 3) (T : Fin 16) : Vec F S1x1x4x128 .i8 :=
  View.readAt (Elt F) b.view (Rect.unit (s := S1x3x4x2048) ![0, i.val, 0, 128 * T.val] S1x1x4x128.size (fun a => by
    have := T.isLt; have := i.isLt
    match a with
    | ⟨0, _⟩ => show 0 + 1 ≤ 1; omega
    | ⟨1, _⟩ => show i.val + 1 ≤ 3; omega
    | ⟨2, _⟩ => show 0 + 4 ≤ 4; omega
    | ⟨3, _⟩ => show 128 * T.val + 128 ≤ 2048; omega)).toLoadRect (hb.unread x5)

/-- Byte `i` of tile `T` as a word. -/
def byte (b : Memref sig .tc .vmem S1x3x4x2048 .i8) (hb : b.IsWhole) (x5 : Vec F S1x3x4x2048 .i8) (i : Fin 3) (T : Fin 16) : IVec S4x128 32 :=
  extui 32 (shapeCast S4x128 (rdB (F := F) b hb x5 i T : IVec S1x1x4x128 8) shapeCasts_S1x1x4x128_S4x128) natLt_8_32

/-- A bin's place in the histogram: its high bits one byte up, its low seven kept. -/
def place (v : IVec S4x128 32) : IVec S4x128 32 :=
  ori (shli (shrsi v (broadcast S4x128 7#32)) (broadcast S4x128 8#32)) (andi v (broadcast S4x128 127#32))

/-- The two places of tile `T`'s codes in one word, from the three code bytes. -/
def words (b : Memref sig .tc .vmem S1x3x4x2048 .i8) (hb : b.IsWhole) (x5 : Vec F S1x3x4x2048 .i8) (T : Fin 16) : IVec S4x128 32 :=
  ori (place (ori (byte b hb x5 0 T) (shli (andi (byte b hb x5 1 T) (broadcast S4x128 15#32)) (broadcast S4x128 8#32))))
    (shli (ori (place (ori (shrsi (byte b hb x5 1 T) (broadcast S4x128 4#32)) (shli (byte b hb x5 2 T) (broadcast S4x128 4#32)))) (broadcast S4x128 128#32))
      (broadcast S4x128 16#32))

/-- The piece of tile `T`, kv head `kv`, that holds the three heads' probabilities. -/
def pPiece (p : FVec F S16x128 .f32) (T : Fin 16) (kv : Fin 4) : View.Piece (Elt F) S1x4x16x4x128 .f32 :=
  ⟨Rect.unit (s := S1x4x16x4x128) ![0, kv.val, T.val, 0, 0] S1x1x1x3x128.size (fun a => by
    have := T.isLt; have := kv.isLt
    match a with
    | ⟨0, _⟩ => show 0 + 1 ≤ 1; omega
    | ⟨1, _⟩ => show kv.val + 1 ≤ 4; omega
    | ⟨2, _⟩ => show T.val + 1 ≤ 16; omega
    | ⟨3, _⟩ => show 0 + 3 ≤ 4; omega
    | ⟨4, _⟩ => show 0 + 128 ≤ 128; omega),
   shapeCast S1x1x1x3x128 (extractStridedSlice S3x128 ![4 * kv.val, 0] p ⟨rfl, fun a => by
      have := kv.isLt
      match a with
      | ⟨0, _⟩ => show 4 * kv.val + 3 ≤ 16; omega
      | ⟨1, _⟩ => show 0 + 128 ≤ 128; omega⟩) shapeCasts_S3x128_S1x1x1x3x128⟩

/-- The piece of tile `T`, kv head `kv`, that holds the words' bits. -/
def wPiece (w : IVec S4x128 32) (T : Fin 16) (kv : Fin 4) : View.Piece (Elt F) S1x4x16x4x128 .f32 :=
  ⟨Rect.unit (s := S1x4x16x4x128) ![0, kv.val, T.val, 3, 0] S1x1x1x1x128.size (fun a => by
    have := T.isLt; have := kv.isLt
    match a with
    | ⟨0, _⟩ => show 0 + 1 ≤ 1; omega
    | ⟨1, _⟩ => show kv.val + 1 ≤ 4; omega
    | ⟨2, _⟩ => show T.val + 1 ≤ 16; omega
    | ⟨3, _⟩ => show 3 + 1 ≤ 4; omega
    | ⟨4, _⟩ => show 0 + 128 ≤ 128; omega),
   shapeCast S1x1x1x1x128 (bitcastToFloat (F := F) .f32 (extractStridedSlice S1x128 ![kv.val, 0] w ⟨rfl, fun a => by
      have := kv.isLt
      match a with
      | ⟨0, _⟩ => show kv.val + 1 ≤ 4; omega
      | ⟨1, _⟩ => show 0 + 128 ≤ 128; omega⟩)) shapeCasts_S1x128_S1x1x1x1x128⟩

/-- All the pieces of the probabilities' window. -/
def outPieces (p : Fin 16 → FVec F S16x128 .f32) (w : Fin 16 → IVec S4x128 32) : List (View.Piece (Elt F) S1x4x16x4x128 .f32) :=
  down.flatMap fun T => ([3, 2, 1, 0] : List (Fin 4)).flatMap fun kv => [wPiece (w T) T kv, pPiece (p T) T kv]

/-- The new token's part of the output: its probability times the new value row. -/
def newOut (pn : FVec F S16x1 .f32) (vn : FVec F S1x4x128 .bf16) : FVec F S1x16x128 .f32 :=
  shapeCast S1x16x128 (mulf (broadcastTo S16x128 pn broadcasts_S16x1_S16x128)
    (expandV (extf .f32 (shapeCast S4x128 vn shapeCasts_S1x4x128_S4x128) bitsLt_bf16_f32))) shapeCasts_S16x128_S1x16x128

variable (c : Dev nD) (i : grid0.Coords) (arg2 : Memref sig .tc .vmem S72x1536 .bf16) (harg2 : arg2.IsWhole) (arg3 : Memref sig .tc .vmem S1x4x128 .bf16) (harg3 : arg3.IsWhole) (arg4 : Memref sig .tc .vmem S1x4x128 .bf16) (harg4 : arg4.IsWhole) (arg5 : Memref sig .tc .vmem S1x8192x128 .fp8e4m3) (harg5 : arg5.IsWhole) (arg6 : Memref sig .tc .vmem S1x4x2048 .f32) (harg6 : arg6.IsWhole) (arg7 : Memref sig .tc .vmem S1x3x4x2048 .i8) (harg7 : arg7.IsWhole) (arg8 : Memref sig .tc .vmem S1x4x16x4x128 .f32) (harg8 : arg8.IsWhole) (arg9 : Memref sig .tc .vmem S1x16x128 .f32) (harg9 : arg9.IsWhole) (arg10 : Memref sig .tc .vmem S1152x128 .f32) (harg10 : arg10.IsWhole) (arg11 : Memref sig .tc .vmem S16x2048 .f32) (harg11 : arg11.IsWhole) (v4 : Elt F .i32) (v8 : Vec F S16x128 .f32) (x1 : Vec F S1x4x128 .bf16) (x2 : Vec F S1x4x128 .bf16) (x3 : Vec F S1x8192x128 .fp8e4m3) (x4 : Vec F S1x4x2048 .f32) (x5 : Vec F S1x3x4x2048 .i8)

/-- What the scratch holds after the exponentials, in the body's own words. -/
theorem hist16_eq : tailRun.sl.HS1_32 c arg3 harg3 arg5 harg5 arg6 harg6 arg11 v4 v8 x1 x3 x4
    = hist arg11 (tile arg5 harg5 arg6 harg6 v4 v8 x3 x4) (tailRun.sl.r_190 c arg3 harg3 arg5 harg5 arg6 harg6 v4 v8 x1 x3 x4) 16 := by sl_kernel_rfl

/-- The body's row sums, its exponentials read from the scratch. -/
theorem denom_eq : tailRun.sl.r_199 c arg3 harg3 arg5 harg5 arg6 harg6 arg11 v4 v8 x1 x3 x4
    = denom (fun T => eRead arg11 (tile arg5 harg5 arg6 harg6 v4 v8 x3 x4) (tailRun.sl.r_190 c arg3 harg3 arg5 harg5 arg6 harg6 v4 v8 x1 x3 x4) T.val)
        (exp (subf (tailRun.sl.r_3 c arg3 harg3 v8 x1) (tailRun.sl.r_190 c arg3 harg3 arg5 harg5 arg6 harg6 v4 v8 x1 x3 x4))) := by sl_kernel_rfl

/-- The probabilities' window, in the body's own words. -/
theorem window6_eq : (tailRun c i arg2 harg2 arg3 harg3 arg4 harg4 arg5 harg5 arg6 harg6 arg7 harg7 arg8 harg8 arg9 harg9 arg10 harg10 arg11 harg11 v4 v8 x1 x2 x3 x4 x5).1
    = outPieces (fun T => prob (arg11.view.readCov (tailRun.sl.HS1_32 c arg3 harg3 arg5 harg5 arg6 harg6 arg11 v4 v8 x1 x3 x4) (rect T).toLoadRect)
          (tailRun.sl.r_199 c arg3 harg3 arg5 harg5 arg6 harg6 arg11 v4 v8 x1 x3 x4)) (fun T => words (F := F) arg7 harg7 x5 T) := by sl_kernel_rfl

/-- The new token's window, in the body's own words. -/
theorem window7_eq : (tailRun c i arg2 harg2 arg3 harg3 arg4 harg4 arg5 harg5 arg6 harg6 arg7 harg7 arg8 harg8 arg9 harg9 arg10 harg10 arg11 harg11 v4 v8 x1 x2 x3 x4 x5).2.1
    = [⟨Rect.unit (s := S1x16x128) ![0, 0, 0] S1x16x128.size inb_S1x16x128_S1x16x128_0_0_0,
        newOut (divf (exp (subf (tailRun.sl.r_3 c arg3 harg3 v8 x1) (tailRun.sl.r_190 c arg3 harg3 arg5 harg5 arg6 harg6 v4 v8 x1 x3 x4)))
          (tailRun.sl.r_199 c arg3 harg3 arg5 harg5 arg6 harg6 arg11 v4 v8 x1 x3 x4)) (rdN arg4 harg4 x2)⟩] := by sl_kernel_rfl

end Cert.ScoresIdeal.Canon

end
-- ==== Proof.ScoresPure.lean ====
module

public import proofs.«01_k».proof.Proof.ScoresSoft

@[expose] public section

set_option maxRecDepth 16384

noncomputable section

open Idealize.ShloMosaic Idealize.ShloMosaic.TcCoe Idealize.ShloMosaic.Tactic Idealize.SL.Sem
open Idealize.ShloMosaic.Pipeline (Dat)

namespace Cert.ScoresIdeal.Canon

open Cert.ScoresIdeal Cert.ScoresIdeal.Gen

/-- The kv head of a query row, as the body computes it, is `row / 4`. -/
theorem rowq_at (R : Fin 16) (l : Fin 128) : k0_pay123 (ix2 R l) = BitVec.ofNat 32 (R.val / 4) := by
  pointwise [k0_pay123]
  revert R; decide

/-- The lane's quarter is `lane / 32`. -/
theorem quarter_at (R : Fin 16) (l : Fin 128) : quarter (ix2 R l) = BitVec.ofNat 32 (l.val / 32) := by
  pointwise [quarter, lane]
  revert l; decide +kernel

/-- The column a lane picks is `4 (lane % 32) + row / 4`. -/
theorem pick_at (R : Fin 16) (l : Fin 128) : pick (ix2 R l) = BitVec.ofNat 32 (4 * (l.val % 32) + R.val / 4) := by
  unfold pick
  have h := rowq_at R l
  generalize k0_pay123 = q at *
  pointwise [k0_pay125, k0_pay124, lane]
  rw [h]
  clear h q
  revert R l; decide +kernel

/-- A gather of 128 products at the lanes' picks. -/
theorem gath_at (s : FVec Ideal S16x128 .f32) (R : Fin 16) (l : Fin 128) :
    gath s (ix2 R l) = s (ix2 R ⟨4 * (l.val % 32) + R.val / 4, by omega⟩) := by
  have h := pick_at R l
  unfold gath
  generalize pick = p at *
  pointwise []
  refine congrArg (fun k => s (ix2 R k)) (Fin.ext ?_)
  show (Scalar.select (IntOp.cmpi .slt (p (ix2 R l)) 0#32) (IntOp.addi (p (ix2 R l)) 128#32) (p (ix2 R l))).toNat % 128 = _
  rw [h]
  clear h s p
  revert R l; decide +kernel

/-- The four kv heads' rows laid on the query rows: row `R` reads head `R / 4`. -/
theorem expandV_at (v : FVec Ideal S4x128 .f32) (R : Fin 16) (l : Fin 128) :
    expandV v (ix2 R l) = v (ix2 ⟨R.val / 4, by omega⟩ l) := by
  have h := rowq_at R l
  unfold expandV
  generalize k0_pay123 = q at *
  pointwise []
  rw [h]
  clear h
  have : R.val / 4 = 0 ∨ R.val / 4 = 1 ∨ R.val / 4 = 2 ∨ R.val / 4 = 3 := by omega
  rcases this with e | e | e | e <;> simp only [e] <;> rfl

/-- The products of the doubled queries with a chunk: the first sixteen rows meet the chunk's first half. -/
theorem prod_lo (q : FVec Ideal S16x128 .f32) (lo hi : FVec Ideal S1x1024x128 .fp8e4m3) (R : Fin 16) (j : Fin 1024) :
    k0_pay131 (k0_pay122 q) lo hi (ix2 ⟨R.val, by omega⟩ j) = ∑ d : Fin 128, (q (ix2 R d) : EReal) * lo (ix3 0 j d) := by
  pointwise [k0_pay131, k0_pay122]
  simp only [zero_mul, Finset.sum_const_zero, add_zero]

/-- … and the last sixteen its second half. -/
theorem prod_hi (q : FVec Ideal S16x128 .f32) (lo hi : FVec Ideal S1x1024x128 .fp8e4m3) (R : Fin 16) (j : Fin 1024) :
    k0_pay131 (k0_pay122 q) lo hi (ix2 ⟨16 + R.val, by omega⟩ j) = ∑ d : Fin 128, (q (ix2 R d) : EReal) * hi (ix3 0 j d) := by
  pointwise [k0_pay131, k0_pay122]
  simp only [zero_mul, Finset.sum_const_zero, zero_add]

/-- The picks out of four times 128 products: quarter `i` of the lanes reads the `i`-th. -/
theorem acc_at (f : Fin 4 → FVec Ideal S16x128 .f32) (R : Fin 16) (l : Fin 128) :
    acc (f 0) (f 1) (f 2) (f 3) (ix2 R l) = f ⟨l.val / 32, by omega⟩ (ix2 R ⟨4 * (l.val % 32) + R.val / 4, by omega⟩) := by
  have h := quarter_at R l
  unfold acc
  generalize quarter = q at *
  have g := fun i => gath_at (f i) R l
  generalize hG : (fun i => gath (f i)) = G at *
  have g' : ∀ i, gath (f i) = G i := fun i => by rw [← hG]
  simp only [g'] at *
  pointwise []
  rw [h, ← g]
  clear g g' hG h
  have : l.val / 32 = 0 ∨ l.val / 32 = 1 ∨ l.val / 32 = 2 ∨ l.val / 32 = 3 := by omega
  rcases this with e | e | e | e <;> simp only [e] <;> rfl

theorem part_at (T : Fin 16) (i : Fin 4) (S : FVec Ideal S32x1024 .f32) (R : Fin 16) (l : Fin 128) :
    part T i S (ix2 R l) = S (ix2 ⟨16 * (T.val / 2 % 2) + R.val, by omega⟩ ⟨512 * (T.val % 2) + 128 * i.val + l.val, by omega⟩) := by
  pointwise [part]

/-- Where a unit-stride rectangle's index lies. -/
theorem unit_idx {s : Shape} (off : Fin s.rank → Nat) (sz : Fin s.rank → Nat) (h) (j : (Rect.unit (s := s) off sz h).shape.Idx) (a : Fin s.rank) :
    ((Rect.unit (s := s) off sz h).toLoadRect.idx j a).val = off a + (j a).val :=
  congrArg (off a + ·) (Nat.one_mul _)

theorem rdK_at (b : Memref sig .tc .vmem S1x8192x128 .fp8e4m3) (hb : b.IsWhole) (x3 : FVec Ideal S1x8192x128 .fp8e4m3) (k : Fin 8) (j : Fin 1024) (d : Fin 128) :
    rdK b hb x3 k (ix3 0 j d) = x3 (ix3 0 ⟨1024 * k.val + j.val, by omega⟩ d) := by
  unfold rdK
  rw [View.readAt_apply, hb.read_unread]
  refine congrArg x3 (funext fun a => Fin.ext ((unit_idx _ _ _ _ a).trans ?_))
  fin_cases a <;> simp [ix3, ix4]

theorem rdC_at (b : Memref sig .tc .vmem S1x4x2048 .f32) (hb : b.IsWhole) (x4 : FVec Ideal S1x4x2048 .f32) (T : Fin 16) (k : Fin 4) (l : Fin 128) :
    rdC b hb x4 T (ix3 0 k l) = x4 (ix3 0 k ⟨128 * T.val + l.val, by omega⟩) := by
  unfold rdC
  rw [View.readAt_apply, hb.read_unread]
  refine congrArg x4 (funext fun a => Fin.ext ((unit_idx _ _ _ _ a).trans ?_))
  fin_cases a <;> simp [ix3, ix4]

theorem rdB_at (b : Memref sig .tc .vmem S1x3x4x2048 .i8) (hb : b.IsWhole) (x5 : Vec Ideal S1x3x4x2048 .i8) (i : Fin 3) (T : Fin 16) (k : Fin 4) (l : Fin 128) :
    rdB (F := Ideal) b hb x5 i T (ix4 0 0 k l) = x5 (ix4 0 i k ⟨128 * T.val + l.val, by omega⟩) := by
  unfold rdB
  rw [View.readAt_apply, hb.read_unread]
  refine congrArg x5 (funext fun a => Fin.ext ((unit_idx _ _ _ _ a).trans ?_))
  fin_cases a <;> simp [ix3, ix4]

theorem rdN_at (b : Memref sig .tc .vmem S1x4x128 .bf16) (hb : b.IsWhole) (x : FVec Ideal S1x4x128 .bf16) (k : Fin 4) (d : Fin 128) :
    rdN b hb x (ix3 0 k d) = x (ix3 0 k d) := by
  unfold rdN
  rw [View.readAt_apply, hb.read_unread]
  refine congrArg x (funext fun a => Fin.ext ((unit_idx _ _ _ _ a).trans ?_))
  fin_cases a <;> simp [ix3, ix4]

/-- One row's product with a token's codes: the row's queries against the row's kv head. -/
def dot (q : FVec Ideal S16x128 .f32) (x3 : FVec Ideal S1x8192x128 .fp8e4m3) (R : Fin 16) (t : Fin 2048) : EReal :=
  ∑ d : Fin 128, (q (ix2 R d) : EReal) * x3 (ix3 0 ⟨4 * t.val + R.val / 4, by omega⟩ d)

/-- Tile `T`'s products, picked to its lanes: one row's product with each of the tile's tokens. -/
theorem tileDot_at (b : Memref sig .tc .vmem S1x8192x128 .fp8e4m3) (hb : b.IsWhole) (q : FVec Ideal S16x128 .f32) (x3 : FVec Ideal S1x8192x128 .fp8e4m3)
    (T : Fin 16) (R : Fin 16) (l : Fin 128) :
    acc (part T 0 (prod b hb q x3 ⟨T.val / 4, by omega⟩)) (part T 1 (prod b hb q x3 ⟨T.val / 4, by omega⟩))
      (part T 2 (prod b hb q x3 ⟨T.val / 4, by omega⟩)) (part T 3 (prod b hb q x3 ⟨T.val / 4, by omega⟩)) (ix2 R l)
      = dot q x3 R ⟨128 * T.val + l.val, by omega⟩ := by
  refine (acc_at (fun i => part T i (prod b hb q x3 ⟨T.val / 4, by omega⟩)) R l).trans ?_
  rw [part_at]
  unfold prod dot
  have hp : T.val / 2 % 2 = 0 ∨ T.val / 2 % 2 = 1 := by omega
  rcases hp with hp | hp
  · refine ((congrArg _ (?_ : _ = ix2 ⟨R.val, by omega⟩ ⟨512 * (T.val % 2) + 128 * (l.val / 32) + (4 * (l.val % 32) + R.val / 4), by omega⟩)).trans (prod_lo q _ _ R _)).trans ?_
    · exact congrArg₂ ix2 (Fin.ext (by simp [hp])) rfl
    · refine Finset.sum_congr rfl fun d _ => ?_
      rw [rdK_at]
      exact congrArg (fun k => (q (ix2 R d) : EReal) * x3 (ix3 0 k d)) (Fin.ext (by simp only []; omega))
  · refine ((congrArg _ (?_ : _ = ix2 ⟨16 + R.val, by omega⟩ ⟨512 * (T.val % 2) + 128 * (l.val / 32) + (4 * (l.val % 32) + R.val / 4), by omega⟩)).trans (prod_hi q _ _ R _)).trans ?_
    · exact congrArg₂ ix2 (Fin.ext (by simp [hp])) rfl
    · refine Finset.sum_congr rfl fun d _ => ?_
      rw [rdK_at]
      exact congrArg (fun k => (q (ix2 R d) : EReal) * x3 (ix3 0 k d)) (Fin.ext (by simp only []; omega))

/-- A token's masked score for a row: the product times the token's scale times the score scale. -/
def score (n : BitVec 32) (q : FVec Ideal S16x128 .f32) (x3 : FVec Ideal S1x8192x128 .fp8e4m3) (x4 : FVec Ideal S1x4x2048 .f32) (R : Fin 16) (t : Fin 2048) : EReal :=
  Scalar.select (IntOp.cmpi .slt (BitVec.ofNat 32 t.val) n)
    (dot q x3 R t * ((x4 (ix3 0 ⟨R.val / 4, by omega⟩ t) : EReal) * Ideal.ofBits .f32 0x3DB504F3#32)) (Ideal.ofBits .f32 0xFF800000#32)

/-- The body's tile holds the scores of its 128 tokens. -/
theorem tile_at (b5 : Memref sig .tc .vmem S1x8192x128 .fp8e4m3) (hb5 : b5.IsWhole) (b6 : Memref sig .tc .vmem S1x4x2048 .f32) (hb6 : b6.IsWhole)
    (n : BitVec 32) (q : FVec Ideal S16x128 .f32) (x3 : FVec Ideal S1x8192x128 .fp8e4m3) (x4 : FVec Ideal S1x4x2048 .f32) (T R : Fin 16) (l : Fin 128) :
    tile b5 hb5 b6 hb6 n q x3 x4 T (ix2 R l) = score n q x3 x4 R ⟨128 * T.val + l.val, by omega⟩ := by
  have h1 := tileDot_at b5 hb5 q x3 T R l
  have h2 := rdC_at b6 hb6 x4 T ⟨R.val / 4, by omega⟩ l
  unfold tile
  generalize acc _ _ _ _ = A at *
  have h3 := expandV_at (mulf (shapeCast S4x128 (rdC b6 hb6 x4 T) shapeCasts_S1x4x128_S4x128) (broadcast S4x128 (Scalar.ofBits .f32 0x3DB504F3#32))) R l
  generalize expandV _ = E at *
  generalize rdC _ _ _ _ = C at *
  pointwise [lane] at h3 ⊢
  rw [h1, h3, h2]
  unfold score
  refine congrArg (fun k => Scalar.select (IntOp.cmpi .slt k n) _ _) ?_
  show BitVec.ofNat 32 l.val + BitVec.ofNat 32 (128 * T.val) = BitVec.ofNat 32 (128 * T.val + l.val)
  rw [← BitVec.ofNat_add, Nat.add_comm]

/-- The new token's score for a row. -/
def newS (q : FVec Ideal S16x128 .f32) (x1 : FVec Ideal S1x4x128 .bf16) (R : Fin 16) : EReal :=
  (∑ d : Fin 128, (q (ix2 R d) : EReal) * x1 (ix3 0 ⟨R.val / 4, by omega⟩ d)) * Ideal.ofBits .f32 0x3DB504F3#32

theorem newScore_at (q : FVec Ideal S16x128 .f32) (x1 : FVec Ideal S1x4x128 .bf16) (R : Fin 16) :
    newScore q x1 (ix2 R 0) = newS q x1 R := by
  have h3 := fun d => expandV_at (extf .f32 (shapeCast S4x128 x1 shapeCasts_S1x4x128_S4x128) bitsLt_bf16_f32) R d
  unfold newScore
  generalize expandV _ = E at *
  pointwise [] at h3 ⊢
  simp only [h3]
  rfl

/-- The largest of a row's scores and the new token's. -/
def peak (f : Fin 2048 → EReal) (new : EReal) : EReal := max (Finset.univ.fold max (Ideal.ofBits .f32 0xFF800000#32) f) new

/-- A running maximum of sixteen lies below `c` when its start and all its members do. -/
theorem max16_le (g : Fin 16 → EReal) (z c : EReal) : max (max (max (max (max (max (max (max (max (max (max (max (max (max (max (max z (g 0)) (g 1)) (g 2)) (g 3)) (g 4)) (g 5)) (g 6)) (g 7)) (g 8)) (g 9)) (g 10)) (g 11)) (g 12)) (g 13)) (g 14)) (g 15) ≤ c ↔ z ≤ c ∧ ∀ T, g T ≤ c := by
  constructor
  · intro h
    simp only [max_le_iff] at h
    obtain ⟨⟨⟨⟨⟨⟨⟨⟨⟨⟨⟨⟨⟨⟨⟨⟨hz, h0⟩, h1⟩, h2⟩, h3⟩, h4⟩, h5⟩, h6⟩, h7⟩, h8⟩, h9⟩, h10⟩, h11⟩, h12⟩, h13⟩, h14⟩, h15⟩ := h
    refine ⟨hz, fun T => ?_⟩
    fin_cases T
    exacts [h0, h1, h2, h3, h4, h5, h6, h7, h8, h9, h10, h11, h12, h13, h14, h15]
  · rintro ⟨hz, h⟩
    simp only [max_le_iff, hz, h, and_self]

/-- A running sum of sixteen. -/
theorem sum16 (g : Fin 16 → EReal) : ∑ T, g T = g 0 + g 1 + g 2 + g 3 + g 4 + g 5 + g 6 + g 7 + g 8 + g 9 + g 10 + g 11 + g 12 + g 13 + g 14 + g 15 := by
  simp only [Fin.sum_univ_castSucc, Fin.sum_univ_zero, zero_add, ← add_assoc]; rfl

/-- A row's maximum over tiles that hold `f`. -/
theorem rowMax_at (s : Fin 16 → FVec Ideal S16x128 .f32) (new : FVec Ideal S16x1 .f32) (f : Fin 2048 → EReal) (R : Fin 16)
    (hs : ∀ (T : Fin 16) (l : Fin 128), s T (ix2 R l) = f ⟨128 * T.val + l.val, by omega⟩) :
    rowMax s new (ix2 R 0) = peak f (new (ix2 R 0)) := by
  pointwise [rowMax, top]
  simp only [hs]
  refine congrArg (max · (new (ix2 R 0))) (eq_of_forall_ge_iff fun c => ?_)
  rw [Finset.fold_max_le, Finset.fold_max_le]
  refine and_congr_right fun hz => ⟨fun h t _ => ?_, fun h x _ => (max16_le (fun T => f ⟨128 * T.val + x.val, by omega⟩) _ c).2 ⟨hz, fun T => h _ (Finset.mem_univ _)⟩⟩
  have := ((max16_le (fun T => f ⟨128 * T.val + t.val % 128, by omega⟩) _ c).1 (h ⟨t.val % 128, by omega⟩ (Finset.mem_univ _))).2 ⟨t.val / 128, by omega⟩
  refine (le_of_eq (congrArg f (Fin.ext ?_))).trans this
  show t.val = 128 * (t.val / 128) + t.val % 128
  omega

/-- A row's sum over tiles that hold `f`, the new token's added. -/
theorem denom_at (e : Fin 16 → FVec Ideal S16x128 .f32) (new : FVec Ideal S16x1 .f32) (f : Fin 2048 → EReal) (R : Fin 16)
    (hs : ∀ (T : Fin 16) (l : Fin 128), e T (ix2 R l) = f ⟨128 * T.val + l.val, by omega⟩) :
    denom e new (ix2 R 0) = ∑ t, f t + new (ix2 R 0) := by
  pointwise [denom, total]
  simp only [hs]
  refine congrArg (· + new (ix2 R 0)) ?_
  rw [Fin.sum_univ_tiles 16 128 rfl, Finset.sum_comm]
  refine Finset.sum_congr rfl fun x _ => ?_
  exact (sum16 (fun T => f ⟨128 * T.val + x.val, by omega⟩)).symm.trans (Finset.sum_congr rfl fun T _ => congrArg f (Fin.ext (by
    show 128 * T.val + x.val = T.val * 128 + x.val
    omega)))

theorem eTile_at (s : Fin 16 → FVec Ideal S16x128 .f32) (m : FVec Ideal S16x1 .f32) (T R : Fin 16) (l : Fin 128) :
    eTile s m T (ix2 R l) = Ideal.exp (s T (ix2 R l) - m (ix2 R 0)) := by
  pointwise [eTile, expo, stored]

theorem prob_at (v : FVec Ideal S16x128 .f32) (dn : FVec Ideal S16x1 .f32) (R : Fin 16) (l : Fin 128) :
    prob v dn (ix2 R l) = Ideal.div (v (ix2 R l)) (dn (ix2 R 0)) := by
  pointwise [prob]

/-- A row's probability of token `t`, given its scores `f` and the new token's score. -/
def soft (f : Fin 2048 → EReal) (new : EReal) (t : Fin 2048) : EReal :=
  Ideal.div (Ideal.exp (f t - peak f new)) (∑ t, Ideal.exp (f t - peak f new) + Ideal.exp (new - peak f new))

/-- A row's probability of the new token. -/
def softNew (f : Fin 2048 → EReal) (new : EReal) : EReal :=
  Ideal.div (Ideal.exp (new - peak f new)) (∑ t, Ideal.exp (f t - peak f new) + Ideal.exp (new - peak f new))

/-- A bin's place in the histogram. -/
def placeOf (u : ArithUnit) (v : BitVec 32) : BitVec 32 := IntOp.ori (IntOp.shli u (IntOp.shrsi u v 7#32) 8#32) (IntOp.andi v 127#32)

/-- The word of a token's two codes, from its three bytes, on one unit or the other. -/
def word (u : ArithUnit) (b0 b1 b2 : BitVec 8) : BitVec 32 :=
  IntOp.ori (placeOf u (IntOp.ori (b0.setWidth 32) (IntOp.shli u (IntOp.andi (b1.setWidth 32) 15#32) 8#32)))
    (IntOp.shli u (IntOp.ori (placeOf u (IntOp.ori (IntOp.shrsi u (b1.setWidth 32) 4#32) (IntOp.shli u (b2.setWidth 32) 4#32))) 128#32) 16#32)

theorem words_at (b : Memref sig .tc .vmem S1x3x4x2048 .i8) (hb : b.IsWhole) (x5 : Vec Ideal S1x3x4x2048 .i8) (T : Fin 16) (k : Fin 4) (l : Fin 128) :
    words (F := Ideal) b hb x5 T (ix2 k l) = word .vector (x5 (ix4 0 0 k ⟨128 * T.val + l.val, by omega⟩)) (x5 (ix4 0 1 k ⟨128 * T.val + l.val, by omega⟩))
      (x5 (ix4 0 2 k ⟨128 * T.val + l.val, by omega⟩)) := by
  have h := fun i => rdB_at b hb x5 i T k l
  unfold words byte
  generalize rdB b hb x5 = f at *
  pointwise [place]
  simp only [h]
  rfl

/-- The body's probabilities of tile `T` as it forms them from the row maxima and the row sums. -/
theorem prob_soft (s : Fin 16 → FVec Ideal S16x128 .f32) (new : FVec Ideal S16x1 .f32) (f : Fin 2048 → EReal) (R : Fin 16)
    (hs : ∀ (T : Fin 16) (l : Fin 128), s T (ix2 R l) = f ⟨128 * T.val + l.val, by omega⟩) (T : Fin 16) (l : Fin 128) :
    prob (stored (eTile s (rowMax s new) T)) (denom (eTile s (rowMax s new)) (exp (subf new (rowMax s new)))) (ix2 R l)
      = soft f (new (ix2 R 0)) ⟨128 * T.val + l.val, by omega⟩ := by
  have he : ∀ (T : Fin 16) (l : Fin 128), eTile s (rowMax s new) T (ix2 R l)
      = (fun t => Ideal.exp (f t - peak f (new (ix2 R 0)))) ⟨128 * T.val + l.val, by omega⟩ := fun T l => by
    rw [eTile_at, hs, rowMax_at s new f R hs]
  rw [prob_at, denom_at _ _ (fun t => Ideal.exp (f t - peak f (new (ix2 R 0)))) R he]
  have h1 := he T l
  have h2 := rowMax_at s new f R hs
  generalize rowMax s new = m at *
  generalize eTile s m T = e at *
  pointwise [stored]
  rw [h1, h2]; rfl

/-- … and of the new token. -/
theorem new_soft (s : Fin 16 → FVec Ideal S16x128 .f32) (new : FVec Ideal S16x1 .f32) (f : Fin 2048 → EReal) (R : Fin 16)
    (hs : ∀ (T : Fin 16) (l : Fin 128), s T (ix2 R l) = f ⟨128 * T.val + l.val, by omega⟩) :
    divf (exp (subf new (rowMax s new))) (denom (eTile s (rowMax s new)) (exp (subf new (rowMax s new)))) (ix2 R 0)
      = softNew f (new (ix2 R 0)) := by
  have he : ∀ (T : Fin 16) (l : Fin 128), eTile s (rowMax s new) T (ix2 R l)
      = (fun t => Ideal.exp (f t - peak f (new (ix2 R 0)))) ⟨128 * T.val + l.val, by omega⟩ := fun T l => by
    rw [eTile_at, hs, rowMax_at s new f R hs]
  have h3 := denom_at (eTile s (rowMax s new)) (exp (subf new (rowMax s new))) (fun t => Ideal.exp (f t - peak f (new (ix2 R 0)))) R he
  have h2 := rowMax_at s new f R hs
  generalize denom (F := Ideal) _ _ = D at *
  generalize rowMax s new = m at *
  pointwise [] at h3 ⊢
  rw [h3, h2]; rfl

end Cert.ScoresIdeal.Canon

end
-- ==== Proof.ScoresBlock.lean ====
module

public import proofs.«01_k».proof.Proof.ScoresPure

@[expose] public section

set_option maxRecDepth 16384

noncomputable section

open Idealize.ShloMosaic Idealize.ShloMosaic.TcCoe Idealize.ShloMosaic.Tactic Idealize.SL.Sem
open Idealize.ShloMosaic.Pipeline (Dat)

namespace Cert.ScoresIdeal.Canon

open Cert.ScoresIdeal Cert.ScoresIdeal.Gen

theorem rdN_eq (b : Memref sig .tc .vmem S1x4x128 .bf16) (hb : b.IsWhole) (x : FVec Ideal S1x4x128 .bf16) : rdN b hb x = x := by
  funext y; idx_vars y; rw [Subsingleton.elim y0 0]; exact rdN_at b hb x _ _

/-- What the probabilities' window holds at kv head `kv`, tile `T`, row `g` of four and lane `l`. -/
def outAt (p : Fin 16 → FVec Ideal S16x128 .f32) (w : Fin 16 → IVec S4x128 32) (kv : Fin 4) (T : Fin 16) (g : Fin 4) (l : Fin 128) : EReal :=
  if g.val < 3 then p T (ix2 ⟨4 * kv.val + g.val, by omega⟩ l) else Ideal.ofBits .f32 (w T (ix2 kv l))

theorem pPiece_at (p : FVec Ideal S16x128 .f32) (T : Fin 16) (kv : Fin 4) (a b c : Fin 1) (g : Fin 3) (l : Fin 128) :
    (pPiece p T kv).2 (ix5 a b c g l) = p (ix2 ⟨4 * kv.val + g.val, by omega⟩ l) := by
  unfold pPiece
  pointwise []

theorem wPiece_at (w : IVec S4x128 32) (T : Fin 16) (kv : Fin 4) (a b c g : Fin 1) (l : Fin 128) :
    (wPiece (F := Ideal) w T kv).2 (ix5 a b c g l) = Ideal.ofBits .f32 (w (ix2 kv l)) := by
  unfold wPiece
  pointwise []

theorem pPiece_emb (p : FVec Ideal S16x128 .f32) (T : Fin 16) (kv : Fin 4) (a b c : Fin 1) (g : Fin 3) (l : Fin 128) :
    (pPiece p T kv).1.emb (ix5 a b c g l) = ix5 0 kv T ⟨g.val, by omega⟩ l := by
  funext k
  refine Fin.ext ?_
  show (![0, kv.val, T.val, 0, 0] : Fin 5 → ℕ) k + 1 * ((ix5 a b c g l : S1x1x1x3x128.Idx) k).val = _
  fin_cases k <;> simp [ix5]

theorem wPiece_emb (w : IVec S4x128 32) (T : Fin 16) (kv : Fin 4) (a b c g : Fin 1) (l : Fin 128) :
    (wPiece (F := Ideal) w T kv).1.emb (ix5 a b c g l) = ix5 0 kv T 3 l := by
  funext k
  refine Fin.ext ?_
  show (![0, kv.val, T.val, 3, 0] : Fin 5 → ℕ) k + 1 * ((ix5 a b c g l : S1x1x1x1x128.Idx) k).val = _
  fin_cases k <;> simp [ix5]

/-- The window's pieces, read together. -/
theorem canon_out (p : Fin 16 → FVec Ideal S16x128 .f32) (w : Fin 16 → IVec S4x128 32) (z : Fin 1) (kv : Fin 4) (T : Fin 16) (g : Fin 4) (l : Fin 128) :
    View.canon (outPieces (F := Ideal) p w) (ix5 z kv T g l) = outAt p w kv T g l := by
  refine View.canon_apply_of_pieces (Val := Elt Ideal) (e := .f32) (fun y : S1x4x16x4x128.Idx => outAt p w (y 1) (y 2) (y 3) (y 4)) _ ?_ (ix5 z kv T g l) ?_
  · intro q hq x
    simp only [outPieces, List.mem_flatMap] at hq
    obtain ⟨T, -, kv, -, hq⟩ := hq
    rcases List.mem_cons.1 hq with rfl | hq
    · obtain ⟨a, b, c', g', l', rfl⟩ : ∃ (a b c' g' : Fin 1) (l' : Fin 128), x = ix5 a b c' g' l' := ⟨x 0, x 1, x 2, x 3, x 4, by funext k; fin_cases k <;> rfl⟩
      rw [wPiece_emb]
      exact wPiece_at (w T) T kv a b c' g' l'
    · rw [List.mem_singleton] at hq; subst hq
      obtain ⟨a, b, c', g', l', rfl⟩ : ∃ (a b c' : Fin 1) (g' : Fin 3) (l' : Fin 128), x = ix5 a b c' g' l' := ⟨x 0, x 1, x 2, x 3, x 4, by funext k; fin_cases k <;> rfl⟩
      rw [pPiece_emb]
      exact (pPiece_at (p T) T kv a b c' g' l').trans (if_pos g'.isLt).symm
  · rcases Nat.lt_or_ge g.val 3 with h | h
    · refine ⟨pPiece (p T) T kv, List.mem_flatMap.2 ⟨T, (by decide +kernel : ∀ T : Fin 16, T ∈ down) T, List.mem_flatMap.2 ⟨kv, (by decide +kernel : ∀ k : Fin 4, k ∈ ([3, 2, 1, 0] : List (Fin 4))) kv, by simp⟩⟩, ?_⟩
      have e := pPiece_emb (p T) T kv 0 0 0 ⟨g.val, h⟩ l
      rw [show (ix5 z kv T g l : S1x4x16x4x128.Idx) = (pPiece (p T) T kv).1.emb (ix5 0 0 0 ⟨g.val, h⟩ l) by rw [e, Subsingleton.elim z 0]]
      exact LoadRect.idx_mem _ _
    · refine ⟨wPiece (w T) T kv, List.mem_flatMap.2 ⟨T, (by decide +kernel : ∀ T : Fin 16, T ∈ down) T, List.mem_flatMap.2 ⟨kv, (by decide +kernel : ∀ k : Fin 4, k ∈ ([3, 2, 1, 0] : List (Fin 4))) kv, by simp⟩⟩, ?_⟩
      have e := wPiece_emb (w T) T kv 0 0 0 0 l
      rw [show (ix5 z kv T g l : S1x4x16x4x128.Idx) = (wPiece (F := Ideal) (w T) T kv).1.emb (ix5 0 0 0 0 l) by
        rw [e, Subsingleton.elim z 0, show g = 3 from Fin.ext (by show g.val = 3; omega)]]
      exact LoadRect.idx_mem _ _

variable (c : Dev nD) (i : grid0.Coords) (arg2 : Memref sig .tc .vmem S72x1536 .bf16) (harg2 : arg2.IsWhole) (arg3 : Memref sig .tc .vmem S1x4x128 .bf16) (harg3 : arg3.IsWhole) (arg4 : Memref sig .tc .vmem S1x4x128 .bf16) (harg4 : arg4.IsWhole) (arg5 : Memref sig .tc .vmem S1x8192x128 .fp8e4m3) (harg5 : arg5.IsWhole) (arg6 : Memref sig .tc .vmem S1x4x2048 .f32) (harg6 : arg6.IsWhole) (arg7 : Memref sig .tc .vmem S1x3x4x2048 .i8) (harg7 : arg7.IsWhole) (arg8 : Memref sig .tc .vmem S1x4x16x4x128 .f32) (harg8 : arg8.IsWhole) (arg9 : Memref sig .tc .vmem S1x16x128 .f32) (harg9 : arg9.IsWhole) (arg10 : Memref sig .tc .vmem S1152x128 .f32) (harg10 : arg10.IsWhole) (arg11 : Memref sig .tc .vmem S16x2048 .f32) (harg11 : arg11.IsWhole) (v4 : Elt Ideal .i32) (v8 : Vec Ideal S16x128 .f32) (x1 : Vec Ideal S1x4x128 .bf16) (x2 : Vec Ideal S1x4x128 .bf16) (x3 : Vec Ideal S1x8192x128 .fp8e4m3) (x4 : Vec Ideal S1x4x2048 .f32) (x5 : Vec Ideal S1x3x4x2048 .i8)

/-- The probabilities' window after the body. -/
theorem window6_at (kv : Fin 4) (T : Fin 16) (g : Fin 4) (l : Fin 128) :
    View.canon (tailRun (F := Ideal) c i arg2 harg2 arg3 harg3 arg4 harg4 arg5 harg5 arg6 harg6 arg7 harg7 arg8 harg8 arg9 harg9 arg10 harg10 arg11 harg11 v4 v8 x1 x2 x3 x4 x5).1 (ix5 0 kv T g l)
      = if g.val < 3 then soft (score v4 v8 x3 x4 ⟨4 * kv.val + g.val, by omega⟩) (newS v8 x1 ⟨4 * kv.val + g.val, by omega⟩) ⟨128 * T.val + l.val, by omega⟩
        else Ideal.ofBits .f32 (word .vector (x5 (ix4 0 0 kv ⟨128 * T.val + l.val, by omega⟩)) (x5 (ix4 0 1 kv ⟨128 * T.val + l.val, by omega⟩))
          (x5 (ix4 0 2 kv ⟨128 * T.val + l.val, by omega⟩))) := by
  rw [window6_eq, canon_out]
  unfold outAt
  refine if_congr Iff.rfl ?_ (congrArg (Ideal.ofBits .f32) (words_at arg7 harg7 x5 T kv l))
  simp only [hist16_eq, hist_read, denom_eq, eRead_eq, max_eq, new_eq]
  refine (prob_soft _ _ _ _ (fun T l => tile_at arg5 harg5 arg6 harg6 v4 v8 x3 x4 T ⟨4 * kv.val + g.val, by omega⟩ l) T l).trans ?_
  rw [newScore_at, rdN_eq]

/-- The new token's window after the body. -/
theorem window7_at (R : Fin 16) (d : Fin 128) :
    View.canon (tailRun (F := Ideal) c i arg2 harg2 arg3 harg3 arg4 harg4 arg5 harg5 arg6 harg6 arg7 harg7 arg8 harg8 arg9 harg9 arg10 harg10 arg11 harg11 v4 v8 x1 x2 x3 x4 x5).2.1 (ix3 0 R d)
      = softNew (score v4 v8 x3 x4 R) (newS v8 x1 R) * (x2 (ix3 0 ⟨R.val / 4, by omega⟩ d) : EReal) := by
  rw [window7_eq, View.canon_unit_zero (by decide +kernel)]
  simp only [denom_eq, eRead_eq, max_eq, new_eq, rdN_eq]
  have h := new_soft _ (newScore v8 x1) _ R (fun T l => tile_at arg5 harg5 arg6 harg6 v4 v8 x3 x4 T R l)
  rw [newScore_at] at h
  have hx := expandV_at (extf .f32 (shapeCast S4x128 x2 shapeCasts_S1x4x128_S4x128) bitsLt_bf16_f32) R d
  change newOut (F := Ideal) (divf _ (denom (F := Ideal) (eTile (F := Ideal) _ _) _)) x2 _ = _
  unfold newOut
  generalize divf (F := Ideal) _ _ = D at *
  generalize expandV _ = E at *
  pointwise [] at hx ⊢
  rw [h, hx]

end Cert.ScoresIdeal.Canon

end
-- ==== Proof.ScoresScratch.lean ====
module

public import proofs.«01_k».proof.Proof.ScoresBlock

@[expose] public section

set_option maxRecDepth 16384

noncomputable section

open Idealize.ShloMosaic Idealize.ShloMosaic.TcCoe Idealize.ShloMosaic.Tactic Idealize.SL.Sem
open Idealize.ShloMosaic.Pipeline (Dat)

namespace Cert.ScoresIdeal.Canon

open Cert.ScoresIdeal Cert.ScoresIdeal.Gen

section Generic

variable {F : FTy → Type} [FloatOps F]

/-- The queries of head `h` for the batches `8 r … 8 r + 7`, as stored. -/
def headRows (arg2 : Memref sig .tc .vmem S72x1536 .bf16) (harg2 : arg2.IsWhole) (x0 : Vec F S72x1536 .bf16) (r : Fin 9) (h : Fin 12) : FVec F S8x128 .f32 :=
  k0_pay3 (View.readAt (Elt F) arg2.view (Rect.unit (s := S72x1536) ![8 * r.val, 128 * h.val] S8x128.size (by
    intro a; fin_cases a
    · show 8 * r.val + 8 ≤ 72; omega
    · show 128 * h.val + 128 ≤ 1536; omega)).toLoadRect (harg2.unread x0))

/-- The strided store of one head's queries: the rows `128 r + 4 (h / 3) + h % 3`, every sixteenth. -/
def qPiece (arg2 : Memref sig .tc .vmem S72x1536 .bf16) (harg2 : arg2.IsWhole) (x0 : Vec F S72x1536 .bf16) (r : Fin 9) (h : Fin 12) : View.Piece (Elt F) S1152x128 .f32 :=
  ⟨⟨⟨![128 * r.val + (4 * (h.val / 3) + h.val % 3), 0], S8x128.size, ![16, 1], by
    intro a; right; fin_cases a
    · show 128 * r.val + (4 * (h.val / 3) + h.val % 3) + 16 * 7 < 1152; omega
    · show 0 + 1 * 127 < 128; omega⟩, spos_16_1⟩, headRows arg2 harg2 x0 r h⟩

/-- The head stores, the last first. -/
def heads (arg2 : Memref sig .tc .vmem S72x1536 .bf16) (harg2 : arg2.IsWhole) (x0 : Vec F S72x1536 .bf16) : List (View.Piece (Elt F) S1152x128 .f32) :=
  ([8, 7, 6, 5, 4, 3, 2, 1, 0] : List (Fin 9)).flatMap fun r => ([11, 10, 9, 8, 7, 6, 5, 4, 3, 2, 1, 0] : List (Fin 12)).map fun h => qPiece arg2 harg2 x0 r h

/-- The store of zeros over the whole scratch. -/
def zeros : View.Piece (Elt F) S1152x128 .f32 :=
  ⟨Rect.unit (s := S1152x128) ![0, 0] S1152x128.size inb_S1152x128_S1152x128_0_0, k0_pay2⟩

/-- The valid length the body reads at grid point `i`. -/
def lenAt (c : Dev nD) (i : grid0.Coords) (xt0 : TbBuf0 (F := F) c tbM0_0) : Elt F .i32 :=
  View.readAt (Elt F) tbM0_0.view (Rect.unit (s := S72) (k0_off1 i) S1.size (k0_off1_inb i)).toLoadRect xt0 (Shape.Idx.first (s := S1) (by decide))

/-- The sixteen rows of the scratch the body reads at grid point `i`, from contents `f` of the buffer. -/
def rowsAt {c : Dev nD} (i : grid0.Coords) (arg10 : Memref sig .tc .vmem S1152x128 .f32) (f : Buf (Elt F) (arg10.view.loc (c : Thread nD τ))) : Vec F S16x128 .f32 :=
  View.readAt (Elt F) arg10.view (Rect.unit (s := S1152x128) (k0_off2 i) S16x128.size (k0_off2_inb i)).toLoadRect f

variable (c : Dev nD) (i : grid0.Coords) (arg2 : Memref sig .tc .vmem S72x1536 .bf16) (harg2 : arg2.IsWhole) (arg3 : Memref sig .tc .vmem S1x4x128 .bf16) (harg3 : arg3.IsWhole) (arg4 : Memref sig .tc .vmem S1x4x128 .bf16) (harg4 : arg4.IsWhole) (arg5 : Memref sig .tc .vmem S1x8192x128 .fp8e4m3) (harg5 : arg5.IsWhole) (arg6 : Memref sig .tc .vmem S1x4x2048 .f32) (harg6 : arg6.IsWhole) (arg7 : Memref sig .tc .vmem S1x3x4x2048 .i8) (harg7 : arg7.IsWhole) (arg8 : Memref sig .tc .vmem S1x4x16x4x128 .f32) (harg8 : arg8.IsWhole) (arg9 : Memref sig .tc .vmem S1x16x128 .f32) (harg9 : arg9.IsWhole) (arg10 : Memref sig .tc .vmem S1152x128 .f32) (harg10 : arg10.IsWhole) (arg11 : Memref sig .tc .vmem S16x2048 .f32) (harg11 : arg11.IsWhole)
  (x0 : Vec F S72x1536 .bf16) (x1 : Vec F S1x4x128 .bf16) (x2 : Vec F S1x4x128 .bf16) (x3 : Vec F S1x8192x128 .fp8e4m3) (x4 : Vec F S1x4x2048 .f32) (x5 : Vec F S1x3x4x2048 .i8) (xt0 : TbBuf0 (F := F) c tbM0_0) (xs0 : Vec F S1152x128 .f32)

/-- What the first point stores into the carried scratch. -/
theorem scratch_A (hc0 : cond0_0 i) : (kernelRun0_A (F := F) c i arg2 harg2 arg3 harg3 arg4 harg4 arg5 harg5 arg6 harg6 arg7 harg7 arg8 harg8 arg9 harg9 arg10 harg10 arg11 harg11 hc0 x0 x1 x2 x3 x4 x5 xt0).2.2.1 = heads arg2 harg2 x0 ++ [zeros] := by sl_kernel_rfl

/-- The first point's first output is the tail's over the rows just stored. -/
theorem run_A (hc0 : cond0_0 i) : (kernelRun0_A (F := F) c i arg2 harg2 arg3 harg3 arg4 harg4 arg5 harg5 arg6 harg6 arg7 harg7 arg8 harg8 arg9 harg9 arg10 harg10 arg11 harg11 hc0 x0 x1 x2 x3 x4 x5 xt0).1 = (tailRun (F := F) c i arg2 harg2 arg3 harg3 arg4 harg4 arg5 harg5 arg6 harg6 arg7 harg7 arg8 harg8 arg9 harg9 arg10 harg10 arg11 harg11 (lenAt c i xt0) (rowsAt (c := c) i arg10 (arg10.view.writes (Elt F) arg10.view.junk (heads arg2 harg2 x0 ++ [zeros]))) x1 x2 x3 x4 x5).1 := by sl_kernel_rfl

/-- The first point's second output, likewise. -/
theorem run_A7 (hc0 : cond0_0 i) : (kernelRun0_A (F := F) c i arg2 harg2 arg3 harg3 arg4 harg4 arg5 harg5 arg6 harg6 arg7 harg7 arg8 harg8 arg9 harg9 arg10 harg10 arg11 harg11 hc0 x0 x1 x2 x3 x4 x5 xt0).2.1 = (tailRun (F := F) c i arg2 harg2 arg3 harg3 arg4 harg4 arg5 harg5 arg6 harg6 arg7 harg7 arg8 harg8 arg9 harg9 arg10 harg10 arg11 harg11 (lenAt c i xt0) (rowsAt (c := c) i arg10 (arg10.view.writes (Elt F) arg10.view.junk (heads arg2 harg2 x0 ++ [zeros]))) x1 x2 x3 x4 x5).2.1 := by sl_kernel_rfl

/-- A later point's first output is the tail's over the rows carried. -/
theorem run_B (hc0 : ¬cond0_0 i) : (kernelRun0_B (F := F) c i arg2 harg2 arg3 harg3 arg4 harg4 arg5 harg5 arg6 harg6 arg7 harg7 arg8 harg8 arg9 harg9 arg10 harg10 arg11 harg11 hc0 x0 x1 x2 x3 x4 x5 xt0 xs0).1 = (tailRun (F := F) c i arg2 harg2 arg3 harg3 arg4 harg4 arg5 harg5 arg6 harg6 arg7 harg7 arg8 harg8 arg9 harg9 arg10 harg10 arg11 harg11 (lenAt c i xt0) (rowsAt (c := c) i arg10 (harg10.unread xs0)) x1 x2 x3 x4 x5).1 := by sl_kernel_rfl

/-- A later point's second output, likewise. -/
theorem run_B7 (hc0 : ¬cond0_0 i) : (kernelRun0_B (F := F) c i arg2 harg2 arg3 harg3 arg4 harg4 arg5 harg5 arg6 harg6 arg7 harg7 arg8 harg8 arg9 harg9 arg10 harg10 arg11 harg11 hc0 x0 x1 x2 x3 x4 x5 xt0 xs0).2.1 = (tailRun (F := F) c i arg2 harg2 arg3 harg3 arg4 harg4 arg5 harg5 arg6 harg6 arg7 harg7 arg8 harg8 arg9 harg9 arg10 harg10 arg11 harg11 (lenAt c i xt0) (rowsAt (c := c) i arg10 (harg10.unread xs0)) x1 x2 x3 x4 x5).2.1 := by sl_kernel_rfl

end Generic

/-- A padded query row: row `R` of batch `b` holds head `3 (R / 4) + R % 4` when `R % 4 < 3`, and zeros when `R % 4 = 3`. -/
def qrow (x0 : FVec Ideal S72x1536 .bf16) (b : Fin 72) (R : Fin 16) (d : Fin 128) : EReal :=
  if h : R.val % 4 < 3 then x0 (ix2 b ⟨(3 * (R.val / 4) + R.val % 4) * 128 + d.val, by omega⟩) else 0

/-- The carried scratch: every batch's padded query rows. -/
def qAll (x0 : FVec Ideal S72x1536 .bf16) : FVec Ideal S1152x128 .f32 := fun y =>
  qrow x0 ⟨(y 0).val / 16, by have h : (y 0).val < 1152 := (y 0).isLt; omega⟩ ⟨(y 0).val % 16, by omega⟩ ⟨(y 1).val, (y 1).isLt⟩

theorem headRows_at (arg2 : Memref sig .tc .vmem S72x1536 .bf16) (harg2 : arg2.IsWhole) (x0 : FVec Ideal S72x1536 .bf16) (r : Fin 9) (h : Fin 12) (j : Fin 8) (d : Fin 128) :
    headRows (F := Ideal) arg2 harg2 x0 r h (ix2 j d) = x0 (ix2 ⟨8 * r.val + j.val, by omega⟩ ⟨128 * h.val + d.val, by omega⟩) := by
  unfold headRows
  generalize hv : View.readAt (Elt Ideal) arg2.view _ _ = v
  pointwise [k0_pay3]
  rw [← hv, View.readAt_apply, harg2.read_unread]
  refine congrArg x0 (funext fun a => Fin.ext ((unit_idx _ _ _ _ a).trans ?_))
  fin_cases a <;> simp [ix2]

theorem qPiece_emb (arg2 : Memref sig .tc .vmem S72x1536 .bf16) (harg2 : arg2.IsWhole) (x0 : FVec Ideal S72x1536 .bf16) (r : Fin 9) (h : Fin 12) (j : Fin 8) (d : Fin 128) :
    (qPiece (F := Ideal) arg2 harg2 x0 r h).1.emb (ix2 j d) = ix2 ⟨128 * r.val + (4 * (h.val / 3) + h.val % 3) + 16 * j.val, by omega⟩ d := by
  funext k
  refine Fin.ext ?_
  show (![128 * r.val + (4 * (h.val / 3) + h.val % 3), 0] : Fin 2 → ℕ) k + (![16, 1] : Fin 2 → ℕ) k * ((ix2 j d : S8x128.Idx) k).val = _
  fin_cases k <;> simp [ix2]

theorem qPiece_at (arg2 : Memref sig .tc .vmem S72x1536 .bf16) (harg2 : arg2.IsWhole) (x0 : FVec Ideal S72x1536 .bf16) (r : Fin 9) (h : Fin 12) (j : Fin 8) (d : Fin 128) :
    (qPiece (F := Ideal) arg2 harg2 x0 r h).2 (ix2 j d) = qAll x0 (ix2 ⟨128 * r.val + (4 * (h.val / 3) + h.val % 3) + 16 * j.val, by omega⟩ d) := by
  refine (headRows_at arg2 harg2 x0 r h j d).trans ?_
  show _ = qrow x0 ⟨(128 * r.val + (4 * (h.val / 3) + h.val % 3) + 16 * j.val) / 16, _⟩ ⟨(128 * r.val + (4 * (h.val / 3) + h.val % 3) + 16 * j.val) % 16, _⟩ ⟨d.val, _⟩
  unfold qrow
  rw [dif_pos (show ((128 * r.val + (4 * (h.val / 3) + h.val % 3) + 16 * j.val) % 16) % 4 < 3 by omega)]
  refine congrArg x0 ?_
  congr 1
  · exact Fin.ext (by show 8 * r.val + j.val = (128 * r.val + (4 * (h.val / 3) + h.val % 3) + 16 * j.val) / 16; omega)
  · exact Fin.ext (by
      show 128 * h.val + d.val = (3 * (((128 * r.val + (4 * (h.val / 3) + h.val % 3) + 16 * j.val) % 16) / 4) + ((128 * r.val + (4 * (h.val / 3) + h.val % 3) + 16 * j.val) % 16) % 4) * 128 + d.val
      omega)

/-- Writes that miss a place leave what was there. -/
theorem canon_append_skip {S : Shape} {e : EltTy} (y : S.Idx) (L' : List (View.Piece (Elt Ideal) S e)) :
    ∀ L : List (View.Piece (Elt Ideal) S e), (¬∃ p ∈ L, y ∈ p.1.set) → View.canon (L ++ L') y = View.canon L' y
  | [], _ => rfl
  | p :: L, h => by
    rw [List.cons_append, View.canon_cons_of_not_mem _ _ fun hp => h ⟨p, List.mem_cons_self, hp⟩]
    exact canon_append_skip y L' L fun ⟨q, hq, hy⟩ => h ⟨q, List.mem_cons_of_mem _ hq, hy⟩

theorem mem_heads (arg2 : Memref sig .tc .vmem S72x1536 .bf16) (harg2 : arg2.IsWhole) (x0 : FVec Ideal S72x1536 .bf16) (r : Fin 9) (h : Fin 12) :
    qPiece (F := Ideal) arg2 harg2 x0 r h ∈ heads (F := Ideal) arg2 harg2 x0 :=
  List.mem_flatMap.2 ⟨r, (by decide +kernel : ∀ r : Fin 9, r ∈ ([8, 7, 6, 5, 4, 3, 2, 1, 0] : List (Fin 9))) r,
    List.mem_map.2 ⟨h, (by decide +kernel : ∀ h : Fin 12, h ∈ ([11, 10, 9, 8, 7, 6, 5, 4, 3, 2, 1, 0] : List (Fin 12))) h, rfl⟩⟩

/-- After the first point the scratch holds every batch's padded query rows. -/
theorem canon_scratch (arg2 : Memref sig .tc .vmem S72x1536 .bf16) (harg2 : arg2.IsWhole) (x0 : FVec Ideal S72x1536 .bf16) :
    View.canon (heads (F := Ideal) arg2 harg2 x0 ++ [zeros]) = qAll x0 := by
  funext y
  by_cases hc : ∃ p ∈ heads (F := Ideal) arg2 harg2 x0, y ∈ p.1.set
  · refine View.canon_append_of_pieces _ _ _ (fun p hp x => ?_) y hc
    obtain ⟨r, -, hp⟩ := List.mem_flatMap.1 hp
    obtain ⟨h, -, rfl⟩ := List.mem_map.1 hp
    obtain ⟨j, d, rfl⟩ : ∃ (j : Fin 8) (d : Fin 128), x = ix2 j d := ⟨x 0, x 1, by funext k; fin_cases k <;> rfl⟩
    rw [qPiece_emb]
    exact qPiece_at arg2 harg2 x0 r h j d
  · rw [canon_append_skip y _ _ hc]
    obtain ⟨w, d, rfl⟩ : ∃ (w : Fin 1152) (d : Fin 128), y = ix2 w d := ⟨y 0, y 1, by funext k; fin_cases k <;> rfl⟩
    rw [zeros, View.canon_unit_zero (by decide +kernel)]
    have hz : k0_pay2 (F := Ideal) (ix2 w d) = 0 := by
      pointwise [k0_pay2]
      first | done | exact Ideal.ofBits_zero_f32
    refine hz.trans (Eq.symm (dif_neg fun h3 => hc ?_))
    have h3' : w.val % 16 % 4 < 3 := h3
    refine ⟨qPiece arg2 harg2 x0 ⟨w.val / 128, by omega⟩ ⟨3 * (w.val % 16 / 4) + w.val % 4, by omega⟩, mem_heads arg2 harg2 x0 _ _, ?_⟩
    have e := qPiece_emb arg2 harg2 x0 ⟨w.val / 128, by omega⟩ ⟨3 * (w.val % 16 / 4) + w.val % 4, by omega⟩ ⟨w.val % 128 / 16, by omega⟩ d
    have e' : (ix2 w d : S1152x128.Idx) = (qPiece (F := Ideal) arg2 harg2 x0 ⟨w.val / 128, by omega⟩ ⟨3 * (w.val % 16 / 4) + w.val % 4, by omega⟩).1.emb (ix2 ⟨w.val % 128 / 16, by omega⟩ d) := by
      rw [e]
      congr 1
      refine Fin.ext ?_
      show w.val = 128 * (w.val / 128) + (4 * ((3 * (w.val % 16 / 4) + w.val % 4) / 3) + (3 * (w.val % 16 / 4) + w.val % 4) % 3) + 16 * (w.val % 128 / 16)
      omega
    rw [e']
    exact LoadRect.idx_mem _ _

theorem k0_off2_eq (t : Fin 72) : k0_off2 (grid0.coords t) = ![16 * t.val, 0] := by
  revert t; decide +kernel

theorem k0_off1_eq (t : Fin 72) : k0_off1 (grid0.coords t) = ![t.val] := by
  revert t; decide +kernel

/-- The rows the body reads from the scratch at point `t` are batch `t`'s. -/
theorem rows_of_read {c : Dev nD} (t : Fin 72) (arg10 : Memref sig .tc .vmem S1152x128 .f32) (f : Buf (Elt Ideal) (arg10.view.loc (c : Thread nD τ))) (x0 : FVec Ideal S72x1536 .bf16)
    (hf : arg10.view.read (Elt Ideal) f = qAll x0) (R : Fin 16) (d : Fin 128) :
    rowsAt (F := Ideal) (c := c) (grid0.coords t) arg10 f (ix2 R d) = qrow x0 t R d := by
  unfold rowsAt
  rw [View.readAt_apply, hf]
  have e : (Rect.unit (s := S1152x128) (k0_off2 (grid0.coords t)) S16x128.size (k0_off2_inb (grid0.coords t))).toLoadRect.idx (ix2 R d) = ix2 ⟨16 * t.val + R.val, by omega⟩ d := by
    funext a
    refine Fin.ext ((unit_idx _ _ _ _ a).trans ?_)
    refine (congrArg (· + _) (congrFun (k0_off2_eq t) a)).trans ?_
    fin_cases a <;> simp [ix2]
  refine (congrArg (qAll x0) e).trans ?_
  show qrow x0 ⟨(16 * t.val + R.val) / 16, _⟩ ⟨(16 * t.val + R.val) % 16, _⟩ ⟨d.val, _⟩ = _
  congr 1
  · exact Fin.ext (by show (16 * t.val + R.val) / 16 = t.val; omega)
  · exact Fin.ext (by show (16 * t.val + R.val) % 16 = R.val; omega)

end Cert.ScoresIdeal.Canon

end
-- ==== Proof.ScoresBlocks.lean ====
module

public import proofs.«01_k».proof.Proof.ScoresScratch

@[expose] public section

set_option maxRecDepth 16384

noncomputable section

open Idealize.ShloMosaic Idealize.ShloMosaic.TcCoe Idealize.ShloMosaic.Tactic Idealize.SL.Sem
open Idealize.ShloMosaic.Pipeline (Dat)

namespace Cert.ScoresIdeal.Canon

open Cert.ScoresIdeal Cert.ScoresIdeal.Gen

variable (m : (ℓ : Loc nD τ sig) → Buf (Elt Ideal) ℓ) (hO : Ok m)

/-- Where the windows' blocks lie: the queries' is the whole array, the others' follow the batch. -/
theorem idx : ∀ t : Fin grid0.N, cc0_transform_0 (grid0.coords t) = ![0, 0] ∧ cc0_transform_1 (grid0.coords t) = ![t.val, 0, 0]
    ∧ cc0_transform_2 (grid0.coords t) = ![t.val, 0, 0] ∧ cc0_transform_3 (grid0.coords t) = ![t.val, 0, 0]
    ∧ cc0_transform_4 (grid0.coords t) = ![t.val, 0, 0] ∧ cc0_transform_5 (grid0.coords t) = ![t.val, 0, 0, 0]
    ∧ cc0_transform_6 (grid0.coords t) = ![t.val, 0, 0, 0, 0] ∧ cc0_transform_7 (grid0.coords t) = ![t.val, 0, 0] :=
  (by decide +kernel : ∀ t : Fin grid0.N, _)

/-- There are seventy-two grid points. -/
theorem lt72 (t : Fin (cfgM m hO).N) : t.val < 72 := t.isLt

/-- The queries as the pipeline finds them. -/
theorem entry_0 (c : Dev nD) (b : Fin 72) (k : Fin 1536) : (V m c main_v0 : Buf (Elt Ideal) ((c : Thread nD τ).loc main_v0)) (ix2 b k) = m ((c : Thread nD τ).loc main_arg0) (ix3 b 0 k) := by
  entry_read
  pointwise []

/-- The new keys as the pipeline finds them. -/
theorem entry_1 (c : Dev nD) (b : Fin 72) (kv : Fin 4) (d : Fin 128) : (V m c main_v1 : Buf (Elt Ideal) ((c : Thread nD τ).loc main_v1)) (ix3 b kv d) = m ((c : Thread nD τ).loc main_arg1) (ix4 b 0 kv d) := by
  entry_read
  pointwise []

/-- The new values as the pipeline finds them. -/
theorem entry_2 (c : Dev nD) (b : Fin 72) (kv : Fin 4) (d : Fin 128) : (V m c main_v2 : Buf (Elt Ideal) ((c : Thread nD τ).loc main_v2)) (ix3 b kv d) = m ((c : Thread nD τ).loc main_arg2) (ix4 b 0 kv d) := by
  entry_read
  pointwise []

/-- The cached keys as the pipeline finds them. -/
theorem entry_3 (c : Dev nD) (b : Fin 72) (r : Fin 8192) (d : Fin 128) : (V m c main_v3 : Buf (Elt Ideal) ((c : Thread nD τ).loc main_v3)) (ix3 b r d) = m ((c : Thread nD τ).loc main_arg3) (ix4 b ⟨r.val / 4, by omega⟩ ⟨r.val % 4, by omega⟩ d) := by
  entry_read
  pointwise []

/-- The cached keys' scales as the pipeline finds them. -/
theorem entry_4 (c : Dev nD) (b : Fin 72) (kv : Fin 4) (t : Fin 2048) : (V m c main_v4 : Buf (Elt Ideal) ((c : Thread nD τ).loc main_v4)) (ix3 b kv t) = m ((c : Thread nD τ).loc main_arg4) (ix3 b t kv) := by
  entry_read
  pointwise []

/-- The cached values' bytes as the pipeline finds them. -/
theorem entry_5 (c : Dev nD) (b : Fin 72) (i : Fin 3) (kv : Fin 4) (t : Fin 2048) : (V m c main_v5 : Buf (Elt Ideal) ((c : Thread nD τ).loc main_v5)) (ix4 b i kv t) = m ((c : Thread nD τ).loc main_arg5) (ix4 b t kv i) := by
  entry_read
  pointwise []

/-- The queries' block is the whole array. -/
theorem in0 (c : Dev nD) (t : Fin (cfgM m hO).N) (b : Fin 72) (k : Fin 1536) :
    iblk m hO c 0 t (ix2 b k) = m ((c : Thread nD τ).loc main_arg0) (ix3 b 0 k) := by
  have hi := (idx t).1
  refine Eq.trans ?_ (entry_0 m c b k)
  refine congrArg (V m c main_v0) (funext fun a => Fin.ext ?_)
  show cc0_transform_0 (grid0.coords t) a * S72x1536.size a + 1 * ((ix2 b k : S72x1536.Idx) a).val = _
  rw [hi]
  fin_cases a <;> simp [ix2, S72x1536]

/-- The new keys' block is the batch's. -/
theorem in1 (c : Dev nD) (t : Fin (cfgM m hO).N) (kv : Fin 4) (d : Fin 128) :
    iblk m hO c 1 t (ix3 0 kv d) = m ((c : Thread nD τ).loc main_arg1) (ix4 ⟨t.val, lt72 m hO t⟩ 0 kv d) := by
  have hi := (idx t).2.1
  refine Eq.trans ?_ (entry_1 m c ⟨t.val, lt72 m hO t⟩ kv d)
  refine congrArg (V m c main_v1) (funext fun a => Fin.ext ?_)
  show cc0_transform_1 (grid0.coords t) a * S1x4x128.size a + 1 * ((ix3 0 kv d : S1x4x128.Idx) a).val = _
  rw [hi]
  fin_cases a <;> simp [ix3, S1x4x128]

/-- The new values' block is the batch's. -/
theorem in2 (c : Dev nD) (t : Fin (cfgM m hO).N) (kv : Fin 4) (d : Fin 128) :
    iblk m hO c 2 t (ix3 0 kv d) = m ((c : Thread nD τ).loc main_arg2) (ix4 ⟨t.val, lt72 m hO t⟩ 0 kv d) := by
  have hi := (idx t).2.2.1
  refine Eq.trans ?_ (entry_2 m c ⟨t.val, lt72 m hO t⟩ kv d)
  refine congrArg (V m c main_v2) (funext fun a => Fin.ext ?_)
  show cc0_transform_2 (grid0.coords t) a * S1x4x128.size a + 1 * ((ix3 0 kv d : S1x4x128.Idx) a).val = _
  rw [hi]
  fin_cases a <;> simp [ix3, S1x4x128]

/-- The cached keys' block is the batch's. -/
theorem in3 (c : Dev nD) (t : Fin (cfgM m hO).N) (r : Fin 8192) (d : Fin 128) :
    iblk m hO c 3 t (ix3 0 r d) = m ((c : Thread nD τ).loc main_arg3) (ix4 ⟨t.val, lt72 m hO t⟩ ⟨r.val / 4, by omega⟩ ⟨r.val % 4, by omega⟩ d) := by
  have hi := (idx t).2.2.2.1
  refine Eq.trans ?_ (entry_3 m c ⟨t.val, lt72 m hO t⟩ r d)
  refine congrArg (V m c main_v3) (funext fun a => Fin.ext ?_)
  show cc0_transform_3 (grid0.coords t) a * S1x8192x128.size a + 1 * ((ix3 0 r d : S1x8192x128.Idx) a).val = _
  rw [hi]
  fin_cases a <;> simp [ix3, S1x8192x128]

/-- The scales' block is the batch's. -/
theorem in4 (c : Dev nD) (t : Fin (cfgM m hO).N) (kv : Fin 4) (s : Fin 2048) :
    iblk m hO c 4 t (ix3 0 kv s) = m ((c : Thread nD τ).loc main_arg4) (ix3 ⟨t.val, lt72 m hO t⟩ s kv) := by
  have hi := (idx t).2.2.2.2.1
  refine Eq.trans ?_ (entry_4 m c ⟨t.val, lt72 m hO t⟩ kv s)
  refine congrArg (V m c main_v4) (funext fun a => Fin.ext ?_)
  show cc0_transform_4 (grid0.coords t) a * S1x4x2048.size a + 1 * ((ix3 0 kv s : S1x4x2048.Idx) a).val = _
  rw [hi]
  fin_cases a <;> simp [ix3, S1x4x2048]

/-- The bytes' block is the batch's. -/
theorem in5 (c : Dev nD) (t : Fin (cfgM m hO).N) (i : Fin 3) (kv : Fin 4) (s : Fin 2048) :
    iblk m hO c 5 t (ix4 0 i kv s) = m ((c : Thread nD τ).loc main_arg5) (ix4 ⟨t.val, lt72 m hO t⟩ s kv i) := by
  have hi := (idx t).2.2.2.2.2.1
  refine Eq.trans ?_ (entry_5 m c ⟨t.val, lt72 m hO t⟩ i kv s)
  refine congrArg (V m c main_v5) (funext fun a => Fin.ext ?_)
  show cc0_transform_5 (grid0.coords t) a * S1x3x4x2048.size a + 1 * ((ix4 0 i kv s : S1x3x4x2048.Idx) a).val = _
  rw [hi]
  fin_cases a <;> simp [ix4, S1x3x4x2048]

/-- The valid length the body reads at a point is the batch's. -/
theorem len_at (c : Dev nD) (t : Fin (cfgM m hO).N) : lenAt (F := Ideal) c (grid0.coords t) (tbl m 0) = m ((c : Thread nD τ).loc main_arg6) (ix1 ⟨t.val, lt72 m hO t⟩) := by
  obtain rfl : c = 0 := Subsingleton.elim _ _
  refine Eq.trans ?_ (congrFun (V_main_arg6 m 0) (ix1 ⟨t.val, lt72 m hO t⟩))
  unfold lenAt
  refine congrArg (V m 0 main_arg6) (funext fun a => Fin.ext ?_)
  show k0_off1 (grid0.coords t) a + 1 * _ = _
  refine (congrArg (· + _) (congrFun (k0_off1_eq ⟨t.val, lt72 m hO t⟩) a)).trans ?_
  fin_cases a
  simp [ix1, Shape.Idx.first]

end Cert.ScoresIdeal.Canon

end
-- ==== Proof.ScoresRefSoft.lean ====
module

public import proofs.«01_k».proof.Proof.ScoresPure
public import proofs.«01_k».proof.Proof.Gen.ScoresRefIdeal.Run

@[expose] public section

set_option maxRecDepth 16384

noncomputable section

open Idealize.ShloMosaic Idealize.ShloMosaic.TcCoe Idealize.ShloMosaic.Tactic Idealize.SL.Sem
open Idealize.ShloMosaic.Pipeline (Dat)

namespace Cert.ScoresRefIdeal.Canon

open Cert.ScoresRefIdeal Cert.ScoresRefIdeal.Gen Cert.ScoresRefIdeal.Value
open Cert.ScoresIdeal.Canon (soft softNew peak word placeOf)

variable (V0 : Valuation τ sig (Elt Ideal))

/-- The cached tokens' scores, as the reference computes them. -/
def r17 : S72x4x4x2048.Idx → EReal := res_main_v17 (F := Ideal) V0
/-- The new token's scores, as the reference computes them. -/
def r21 : S72x4x4.Idx → EReal := res_main_v21 (F := Ideal) V0
/-- The rows' greatest scores. -/
def r23 : S72x4x4.Idx → EReal := res_main_v23 (F := Ideal) V0
/-- The cached tokens' exponentials. -/
def r27 : S72x4x4x2048.Idx → EReal := res_main_v27 (F := Ideal) V0
/-- The new token's exponentials. -/
def r29 : S72x4x4.Idx → EReal := res_main_v29 (F := Ideal) V0
/-- The rows' denominators. -/
def r31 : S72x4x4.Idx → EReal := res_main_v31 (F := Ideal) V0

/-- A maximum over the last axis is the maximum over that axis' positions. -/
theorem fold_last (f : S72x4x4x2048.Idx → EReal) (z : EReal) (b : Fin 72) (kv g : Fin 4) :
    Finset.fold max z f (Finset.univ.filter fun i => reducesTo_S72x4x4x2048_S72x4x4_d3.drop i = ix3 b kv g)
      = Finset.univ.fold max z (fun t : Fin 2048 => f (ix4 b kv g t)) := by
  refine eq_of_forall_ge_iff fun c => ?_
  rw [Finset.fold_max_le, Finset.fold_max_le]
  refine and_congr_right fun _ => ⟨fun h t _ => h _ (Finset.mem_filter.2 ⟨Finset.mem_univ _, ?_⟩), fun h i hi => ?_⟩
  · funext a; fin_cases a <;> rfl
  · have e := (Finset.mem_filter.1 hi).2
    have e' : i = ix4 b kv g (i 3) := by
      funext a
      fin_cases a
      · exact congrFun e 0
      · exact congrFun e 1
      · exact congrFun e 2
      · rfl
    rw [e']
    exact h (i 3) (Finset.mem_univ _)

/-- The greatest score of a row. -/
theorem v23_at (b : Fin 72) (kv g : Fin 4) :
    r23 V0 (ix3 b kv g) = peak (fun t => r17 V0 (ix4 b kv g t)) (r21 V0 (ix3 b kv g)) := by
  unfold peak r17 r21 r23 res_main_v23
  generalize res_main_v17 V0 = f at *
  generalize res_main_v21 V0 = n at *
  pointwise []
  exact congrArg (max · _) (fold_last f _ b kv g)

/-- A cached token's exponential. -/
theorem v27_at (b : Fin 72) (kv g : Fin 4) (t : Fin 2048) :
    r27 V0 (ix4 b kv g t) = Ideal.exp (r17 V0 (ix4 b kv g t) - r23 V0 (ix3 b kv g)) := by
  unfold r27 r17 r23 res_main_v27
  generalize res_main_v17 V0 = f at *
  generalize res_main_v23 V0 = n at *
  pointwise []

/-- The new token's exponential. -/
theorem v29_at (b : Fin 72) (kv g : Fin 4) :
    r29 V0 (ix3 b kv g) = Ideal.exp (r21 V0 (ix3 b kv g) - r23 V0 (ix3 b kv g)) := by
  unfold r29 r21 r23 res_main_v29
  generalize res_main_v21 V0 = f at *
  generalize res_main_v23 V0 = n at *
  pointwise []

/-- The denominator of a row. -/
theorem v31_at (b : Fin 72) (kv g : Fin 4) :
    r31 V0 (ix3 b kv g) = ∑ t : Fin 2048, r27 V0 (ix4 b kv g t) + r29 V0 (ix3 b kv g) := by
  unfold r31 r27 r29 res_main_v31
  generalize res_main_v27 V0 = f at *
  generalize res_main_v29 V0 = n at *
  pointwise []

/-- A cached token's probability. -/
def probs : S72x4x4x2048.Idx → EReal :=
  Host.divf (F := Ideal) (φ := .f32) (r27 V0) (broadcastInDim S72x4x4x2048 ![0, 1, 2, 3] bcast_S72x4x4x1_S72x4x4x2048_0_1_2_3 (broadcastInDim S72x4x4x1 ![0, 1, 2] bcast_S72x4x4_S72x4x4x1_0_1_2 (r31 V0)))

theorem probs_at (b : Fin 72) (kv g : Fin 4) (t : Fin 2048) :
    probs V0 (ix4 b kv g t) = soft (fun t => r17 V0 (ix4 b kv g t)) (r21 V0 (ix3 b kv g)) t := by
  have h27 := fun t => v27_at V0 b kv g t
  have h23 := v23_at V0 b kv g
  have h29 := v29_at V0 b kv g
  have h31 := v31_at V0 b kv g
  unfold probs soft
  simp only [h27, h29, h23] at h31
  generalize r31 V0 = D at *
  generalize r27 V0 = e at *
  pointwise []
  rw [h31, h27 t, h23]

/-- The new token's probability. -/
def newProbs : S72x4x4.Idx → EReal :=
  Host.divf (F := Ideal) (φ := .f32) (r29 V0) (r31 V0)

theorem newProbs_at (b : Fin 72) (kv g : Fin 4) :
    newProbs V0 (ix3 b kv g) = softNew (fun t => r17 V0 (ix4 b kv g t)) (r21 V0 (ix3 b kv g)) := by
  have h27 := fun t => v27_at V0 b kv g t
  have h23 := v23_at V0 b kv g
  have h29 := v29_at V0 b kv g
  have h31 := v31_at V0 b kv g
  unfold newProbs softNew
  simp only [h27, h29, h23] at h31
  generalize r31 V0 = D at *
  generalize r29 V0 = e at *
  pointwise []
  rw [h31, h29, h23]

end Cert.ScoresRefIdeal.Canon

end
-- ==== Proof.ScoresRef.lean ====
module

public import proofs.«01_k».proof.Proof.ScoresPure
public import proofs.«01_k».proof.Proof.ScoresRefSoft

@[expose] public section

set_option maxRecDepth 16384

noncomputable section

open Idealize.ShloMosaic Idealize.ShloMosaic.TcCoe Idealize.ShloMosaic.Tactic Idealize.SL.Sem
open Idealize.ShloMosaic.Pipeline (Dat)

namespace Cert.ScoresRefIdeal.Canon

open Cert.ScoresRefIdeal Cert.ScoresRefIdeal.Gen Cert.ScoresRefIdeal.Value
open Cert.ScoresIdeal.Canon (soft softNew peak word)

/-- A query row: row `R` of batch `b` holds head `3 (R / 4) + R % 4` when `R % 4 < 3`, and zeros when `R % 4 = 3`. -/
def query (a0 : S72x1x1536.Idx → EReal) (b : Fin 72) (R : Fin 16) (d : Fin 128) : EReal :=
  if h : R.val % 4 < 3 then a0 (ix3 b 0 ⟨(3 * (R.val / 4) + R.val % 4) * 128 + d.val, by omega⟩) else 0

/-- The score of cached token `t` under row `R` of batch `b`: minus infinity past the valid length. -/
def cached (a0 : S72x1x1536.Idx → EReal) (a3 : S72x2048x4x128.Idx → EReal) (a4 : S72x2048x4.Idx → EReal) (a6 : IVec S72 32)
    (b : Fin 72) (R : Fin 16) (t : Fin 2048) : EReal :=
  Scalar.select (IntOp.cmpi .slt (BitVec.ofNat 32 t.val) (a6 (ix1 b)))
    ((∑ d : Fin 128, query a0 b R d * a3 (ix4 b t ⟨R.val / 4, by omega⟩ d)) * (a4 (ix3 b t ⟨R.val / 4, by omega⟩) * Ideal.ofBits .f32 0x3DB504F3#32))
    (Ideal.ofBits .f32 0xFF800000#32)

/-- The score of the new token under row `R` of batch `b`. -/
def fresh (a0 : S72x1x1536.Idx → EReal) (a1 : S72x1x4x128.Idx → EReal) (b : Fin 72) (R : Fin 16) : EReal :=
  (∑ d : Fin 128, query a0 b R d * a1 (ix4 b 0 ⟨R.val / 4, by omega⟩ d)) * Ideal.ofBits .f32 0x3DB504F3#32

variable (V0 : Valuation τ sig (Elt Ideal))

/-- The padded queries. -/
theorem v5_at (b : Fin 72) (kv g : Fin 4) (d : Fin 128) :
    (res_main_v5 (F := Ideal) V0 : S72x4x4x128.Idx → EReal) (ix4 b kv g d) = query (V0 (Proc.devRef .tc main_arg0)) b ⟨4 * kv.val + g.val, by omega⟩ d := by
  unfold query
  pointwise [res_main_v5]
  by_cases h : g.val < 3
  · rw [dif_pos h, dif_pos (show (4 * kv.val + g.val) % 4 < 3 by omega)]
    refine congrArg _ (congrArg (ix3 b 0) (Fin.ext ?_))
    show kv.val * 384 + g.val * 128 + d.val = (3 * ((4 * kv.val + g.val) / 4) + (4 * kv.val + g.val) % 4) * 128 + d.val
    omega
  · rw [dif_neg h, dif_neg (show ¬(4 * kv.val + g.val) % 4 < 3 by omega)]

/-- The scores of the cached tokens. -/
theorem v17_at (b : Fin 72) (kv g : Fin 4) (t : Fin 2048) :
    r17 V0 (ix4 b kv g t)
      = cached (V0 (Proc.devRef .tc main_arg0)) (V0 (Proc.devRef .tc main_v0)) (V0 (Proc.devRef .tc main_arg4)) (V0 (Proc.devRef .tc main_arg6)) b ⟨4 * kv.val + g.val, by omega⟩ t := by
  unfold cached
  have hq := fun d => v5_at V0 b kv g d
  unfold r17 res_main_v17
  generalize res_main_v5 V0 = q at *
  pointwise []
  have e : (⟨(4 * kv.val + g.val) / 4, by omega⟩ : Fin 4) = kv := Fin.ext (by dsimp only; omega)
  simp only [e, hq]
  rfl

/-- The score of the new token. -/
theorem v21_at (b : Fin 72) (kv g : Fin 4) :
    r21 V0 (ix3 b kv g)
      = fresh (V0 (Proc.devRef .tc main_arg0)) (V0 (Proc.devRef .tc main_arg1)) b ⟨4 * kv.val + g.val, by omega⟩ := by
  unfold fresh
  have hq := fun d => v5_at V0 b kv g d
  unfold r21 res_main_v21
  generalize res_main_v5 V0 = q at *
  pointwise []
  have e : (⟨(4 * kv.val + g.val) / 4, by omega⟩ : Fin 4) = kv := Fin.ext (by dsimp only; omega)
  simp only [e, hq]

end Cert.ScoresRefIdeal.Canon

end
-- ==== Proof.ScoresValue.lean ====
module

public import proofs.«01_k».proof.Proof.ScoresBlocks
public import proofs.«01_k».proof.Proof.ScoresRef

@[expose] public section

set_option maxRecDepth 16384

noncomputable section

open Idealize.ShloMosaic Idealize.ShloMosaic.TcCoe Idealize.ShloMosaic.Tactic Idealize.SL.Sem
open Idealize.ShloMosaic.Pipeline (Dat)

namespace Cert.ScoresIdeal.Canon

open Cert.ScoresIdeal Cert.ScoresIdeal.Gen
open Cert.ScoresRefIdeal.Canon (query cached fresh)

/-- The first result: the probabilities of the three queries of a kv head by tiles of 128 tokens, the fourth row of a
    tile holding the words of the tokens' codes. -/
def wAt (a0 : S72x1x1536.Idx → EReal) (a1 : S72x1x4x128.Idx → EReal) (a3 : S72x2048x4x128.Idx → EReal) (a4 : S72x2048x4.Idx → EReal) (a5 : S72x2048x4x3.Idx → BitVec 8) (a6 : IVec S72 32)
    (b : Fin 72) (kv : Fin 4) (T : Fin 16) (g : Fin 4) (l : Fin 128) : EReal :=
  if g.val < 3 then soft (cached a0 a3 a4 a6 b ⟨4 * kv.val + g.val, by omega⟩) (fresh a0 a1 b ⟨4 * kv.val + g.val, by omega⟩) ⟨128 * T.val + l.val, by omega⟩
  else Ideal.ofBits .f32 (word .vector (a5 (ix4 b ⟨128 * T.val + l.val, by omega⟩ kv 0)) (a5 (ix4 b ⟨128 * T.val + l.val, by omega⟩ kv 1)) (a5 (ix4 b ⟨128 * T.val + l.val, by omega⟩ kv 2)))

/-- The second result: the new token's share. -/
def nAt (a0 : S72x1x1536.Idx → EReal) (a1 a2 : S72x1x4x128.Idx → EReal) (a3 : S72x2048x4x128.Idx → EReal) (a4 : S72x2048x4.Idx → EReal) (a6 : IVec S72 32)
    (b : Fin 72) (R : Fin 16) (d : Fin 128) : EReal :=
  softNew (cached a0 a3 a4 a6 b R) (fresh a0 a1 b R) * a2 (ix4 b 0 ⟨R.val / 4, by omega⟩ d)

/-- The first result as an array. -/
def wArr (a0 : S72x1x1536.Idx → EReal) (a1 : S72x1x4x128.Idx → EReal) (a3 : S72x2048x4x128.Idx → EReal) (a4 : S72x2048x4.Idx → EReal) (a5 : S72x2048x4x3.Idx → BitVec 8) (a6 : IVec S72 32) :
    FVec Ideal S72x4x16x4x128 .f32 := fun y => wAt a0 a1 a3 a4 a5 a6 (y 0) (y 1) (y 2) (y 3) (y 4)

/-- The second result as an array. -/
def nArr (a0 : S72x1x1536.Idx → EReal) (a1 a2 : S72x1x4x128.Idx → EReal) (a3 : S72x2048x4x128.Idx → EReal) (a4 : S72x2048x4.Idx → EReal) (a6 : IVec S72 32) :
    FVec Ideal S72x16x128 .f32 := fun y => nAt a0 a1 a2 a3 a4 a6 (y 0) (y 1) (y 2)

/-- Batch `b`'s block of the first result. -/
def wBlk (a0 : S72x1x1536.Idx → EReal) (a1 : S72x1x4x128.Idx → EReal) (a3 : S72x2048x4x128.Idx → EReal) (a4 : S72x2048x4.Idx → EReal) (a5 : S72x2048x4x3.Idx → BitVec 8) (a6 : IVec S72 32)
    (b : Fin 72) : Vec Ideal S1x4x16x4x128 .f32 := fun y => wAt a0 a1 a3 a4 a5 a6 b (y 1) (y 2) (y 3) (y 4)

/-- Batch `b`'s block of the second result. -/
def nBlk (a0 : S72x1x1536.Idx → EReal) (a1 a2 : S72x1x4x128.Idx → EReal) (a3 : S72x2048x4x128.Idx → EReal) (a4 : S72x2048x4.Idx → EReal) (a6 : IVec S72 32)
    (b : Fin 72) : Vec Ideal S1x16x128 .f32 := fun y => nAt a0 a1 a2 a3 a4 a6 b (y 1) (y 2)

section Body

variable (c : Dev nD) (i : grid0.Coords) (arg2 : Memref sig .tc .vmem S72x1536 .bf16) (harg2 : arg2.IsWhole) (arg3 : Memref sig .tc .vmem S1x4x128 .bf16) (harg3 : arg3.IsWhole) (arg4 : Memref sig .tc .vmem S1x4x128 .bf16) (harg4 : arg4.IsWhole) (arg5 : Memref sig .tc .vmem S1x8192x128 .fp8e4m3) (harg5 : arg5.IsWhole) (arg6 : Memref sig .tc .vmem S1x4x2048 .f32) (harg6 : arg6.IsWhole) (arg7 : Memref sig .tc .vmem S1x3x4x2048 .i8) (harg7 : arg7.IsWhole) (arg8 : Memref sig .tc .vmem S1x4x16x4x128 .f32) (harg8 : arg8.IsWhole) (arg9 : Memref sig .tc .vmem S1x16x128 .f32) (harg9 : arg9.IsWhole) (arg10 : Memref sig .tc .vmem S1152x128 .f32) (harg10 : arg10.IsWhole) (arg11 : Memref sig .tc .vmem S16x2048 .f32) (harg11 : arg11.IsWhole)
  (x1 : Vec Ideal S1x4x128 .bf16) (x2 : Vec Ideal S1x4x128 .bf16) (x3 : Vec Ideal S1x8192x128 .fp8e4m3) (x4 : Vec Ideal S1x4x2048 .f32) (x5 : Vec Ideal S1x3x4x2048 .i8)
  (a0 : S72x1x1536.Idx → EReal) (a1 a2 : S72x1x4x128.Idx → EReal) (a3 : S72x2048x4x128.Idx → EReal) (a4 : S72x2048x4.Idx → EReal) (a5 : S72x2048x4x3.Idx → BitVec 8) (a6 : IVec S72 32) (b : Fin 72)
  (h1 : ∀ (kv : Fin 4) (d : Fin 128), x1 (ix3 0 kv d) = a1 (ix4 b 0 kv d))
  (h2 : ∀ (kv : Fin 4) (d : Fin 128), x2 (ix3 0 kv d) = a2 (ix4 b 0 kv d))
  (h3 : ∀ (r : Fin 8192) (d : Fin 128), x3 (ix3 0 r d) = a3 (ix4 b ⟨r.val / 4, by omega⟩ ⟨r.val % 4, by omega⟩ d))
  (h4 : ∀ (kv : Fin 4) (s : Fin 2048), x4 (ix3 0 kv s) = a4 (ix3 b s kv))
  (h5 : ∀ (n : Fin 3) (kv : Fin 4) (s : Fin 2048), x5 (ix4 0 n kv s) = a5 (ix4 b s kv n))

section Tail

variable (v4 : Elt Ideal .i32) (v8 : Vec Ideal S16x128 .f32) (hn : v4 = a6 (ix1 b)) (hq : ∀ (R : Fin 16) (d : Fin 128), v8 (ix2 R d) = query a0 b R d)

include h3 h4 hn hq in
/-- The cached tokens' scores of the block are the batch's. -/
theorem score_eq (R : Fin 16) : score v4 v8 x3 x4 R = cached a0 a3 a4 a6 b R := by
  funext s
  have e3 : ∀ d, x3 (ix3 0 ⟨4 * s.val + R.val / 4, by omega⟩ d) = a3 (ix4 b s ⟨R.val / 4, by omega⟩ d) := fun d =>
    (h3 _ d).trans (congrArg a3 (by
      have ea : (⟨(4 * s.val + R.val / 4) / 4, by omega⟩ : Fin 2048) = s := Fin.ext (by dsimp only; omega)
      have eb : (⟨(4 * s.val + R.val / 4) % 4, by omega⟩ : Fin 4) = ⟨R.val / 4, by omega⟩ := Fin.ext (by dsimp only; omega)
      rw [ea, eb]))
  unfold score cached dot
  rw [hn, h4]
  refine congrArg (fun x => Scalar.select _ (x * _) _) (Finset.sum_congr rfl fun d _ => ?_)
  rw [hq, e3]

include h1 hq in
/-- The new token's score of the block is the batch's. -/
theorem newS_eq (R : Fin 16) : newS v8 x1 R = fresh a0 a1 b R := by
  unfold newS fresh
  refine congrArg (· * _) (Finset.sum_congr rfl fun d _ => ?_)
  rw [hq, h1]

include h1 h2 h3 h4 h5 hn hq

/-- The first output's block after the body, by the operands' arrays. -/
theorem tail6 (kv : Fin 4) (T : Fin 16) (g : Fin 4) (l : Fin 128) :
    View.canon (tailRun (F := Ideal) c i arg2 harg2 arg3 harg3 arg4 harg4 arg5 harg5 arg6 harg6 arg7 harg7 arg8 harg8 arg9 harg9 arg10 harg10 arg11 harg11 v4 v8 x1 x2 x3 x4 x5).1 (ix5 0 kv T g l) = wAt a0 a1 a3 a4 a5 a6 b kv T g l := by
  rw [window6_at, score_eq x3 x4 a0 a3 a4 a6 b h3 h4 v4 v8 hn hq, newS_eq x1 a0 a1 b h1 v8 hq, h5, h5, h5]
  rfl

/-- The second output's block after the body, likewise. -/
theorem tail7 (R : Fin 16) (d : Fin 128) :
    View.canon (tailRun (F := Ideal) c i arg2 harg2 arg3 harg3 arg4 harg4 arg5 harg5 arg6 harg6 arg7 harg7 arg8 harg8 arg9 harg9 arg10 harg10 arg11 harg11 v4 v8 x1 x2 x3 x4 x5).2.1 (ix3 0 R d) = nAt a0 a1 a2 a3 a4 a6 b R d := by
  rw [window7_at, score_eq x3 x4 a0 a3 a4 a6 b h3 h4 v4 v8 hn hq, newS_eq x1 a0 a1 b h1 v8 hq, h2]
  rfl

end Tail

include h1 h2 h3 h4 h5

/-- A first point's first output block. -/
theorem out_A6 (hi : i = grid0.coords b) (hc0 : cond0_0 i) (x0 : Vec Ideal S72x1536 .bf16) (hx0 : x0 = fun y => a0 (ix3 (y 0) 0 (y 1))) (xt0 : TbBuf0 (F := Ideal) c tbM0_0) (hl : lenAt c i xt0 = a6 (ix1 b)) :
    out0_A_6 (F := Ideal) c i arg2 harg2 arg3 harg3 arg4 harg4 arg5 harg5 arg6 harg6 arg7 harg7 arg8 harg8 arg9 harg9 arg10 harg10 arg11 harg11 hc0 x0 x1 x2 x3 x4 x5 xt0 = wBlk a0 a1 a3 a4 a5 a6 b := by
  subst hi
  unfold out0_A_6
  rw [View.read_writes_junk_eq_canon, run_A]
  refine funext fun y => ?_
  obtain ⟨kv, T, g, l, rfl⟩ : ∃ (kv : Fin 4) (T : Fin 16) (g : Fin 4) (l : Fin 128), y = ix5 0 kv T g l := ⟨y 1, y 2, y 3, y 4, by funext a; fin_cases a; exacts [Fin.ext (Nat.lt_one_iff.mp (y 0).isLt), rfl, rfl, rfl, rfl]⟩
  exact tail6 c (grid0.coords b) arg2 harg2 arg3 harg3 arg4 harg4 arg5 harg5 arg6 harg6 arg7 harg7 arg8 harg8 arg9 harg9 arg10 harg10 arg11 harg11 x1 x2 x3 x4 x5 a0 a1 a2 a3 a4 a5 a6 b h1 h2 h3 h4 h5 _ _ hl (fun R d => rows_of_read b arg10 _ (fun y => a0 (ix3 (y 0) 0 (y 1))) ((View.read_writes_junk_eq_canon _ _).trans ((canon_scratch arg2 harg2 x0).trans (congrArg qAll hx0))) R d) kv T g l

/-- A first point's second output block. -/
theorem out_A7 (hi : i = grid0.coords b) (hc0 : cond0_0 i) (x0 : Vec Ideal S72x1536 .bf16) (hx0 : x0 = fun y => a0 (ix3 (y 0) 0 (y 1))) (xt0 : TbBuf0 (F := Ideal) c tbM0_0) (hl : lenAt c i xt0 = a6 (ix1 b)) :
    out0_A_7 (F := Ideal) c i arg2 harg2 arg3 harg3 arg4 harg4 arg5 harg5 arg6 harg6 arg7 harg7 arg8 harg8 arg9 harg9 arg10 harg10 arg11 harg11 hc0 x0 x1 x2 x3 x4 x5 xt0 = nBlk a0 a1 a2 a3 a4 a6 b := by
  subst hi
  unfold out0_A_7
  rw [View.read_writes_junk_eq_canon, run_A7]
  refine funext fun y => ?_
  obtain ⟨R, d, rfl⟩ : ∃ (R : Fin 16) (d : Fin 128), y = ix3 0 R d := ⟨y 1, y 2, by funext a; fin_cases a; exacts [Fin.ext (Nat.lt_one_iff.mp (y 0).isLt), rfl, rfl]⟩
  exact tail7 c (grid0.coords b) arg2 harg2 arg3 harg3 arg4 harg4 arg5 harg5 arg6 harg6 arg7 harg7 arg8 harg8 arg9 harg9 arg10 harg10 arg11 harg11 x1 x2 x3 x4 x5 a0 a1 a2 a3 a4 a5 a6 b h1 h2 h3 h4 h5 _ _ hl (fun R d => rows_of_read b arg10 _ (fun y => a0 (ix3 (y 0) 0 (y 1))) ((View.read_writes_junk_eq_canon _ _).trans ((canon_scratch arg2 harg2 x0).trans (congrArg qAll hx0))) R d) R d

/-- A later point's first output block. -/
theorem out_B6 (hi : i = grid0.coords b) (hc0 : ¬cond0_0 i) (x0 : Vec Ideal S72x1536 .bf16) (xt0 : TbBuf0 (F := Ideal) c tbM0_0) (hl : lenAt c i xt0 = a6 (ix1 b)) (xs0 : Vec Ideal S1152x128 .f32) (hxs : xs0 = qAll fun y => a0 (ix3 (y 0) 0 (y 1))) :
    out0_B_6 (F := Ideal) c i arg2 harg2 arg3 harg3 arg4 harg4 arg5 harg5 arg6 harg6 arg7 harg7 arg8 harg8 arg9 harg9 arg10 harg10 arg11 harg11 hc0 x0 x1 x2 x3 x4 x5 xt0 xs0 = wBlk a0 a1 a3 a4 a5 a6 b := by
  subst hi
  unfold out0_B_6
  rw [View.read_writes_junk_eq_canon, run_B]
  refine funext fun y => ?_
  obtain ⟨kv, T, g, l, rfl⟩ : ∃ (kv : Fin 4) (T : Fin 16) (g : Fin 4) (l : Fin 128), y = ix5 0 kv T g l := ⟨y 1, y 2, y 3, y 4, by funext a; fin_cases a; exacts [Fin.ext (Nat.lt_one_iff.mp (y 0).isLt), rfl, rfl, rfl, rfl]⟩
  exact tail6 c (grid0.coords b) arg2 harg2 arg3 harg3 arg4 harg4 arg5 harg5 arg6 harg6 arg7 harg7 arg8 harg8 arg9 harg9 arg10 harg10 arg11 harg11 x1 x2 x3 x4 x5 a0 a1 a2 a3 a4 a5 a6 b h1 h2 h3 h4 h5 _ _ hl (fun R d => rows_of_read b arg10 _ (fun y => a0 (ix3 (y 0) 0 (y 1))) ((harg10.read_unread xs0).trans hxs) R d) kv T g l

/-- A later point's second output block. -/
theorem out_B7 (hi : i = grid0.coords b) (hc0 : ¬cond0_0 i) (x0 : Vec Ideal S72x1536 .bf16) (xt0 : TbBuf0 (F := Ideal) c tbM0_0) (hl : lenAt c i xt0 = a6 (ix1 b)) (xs0 : Vec Ideal S1152x128 .f32) (hxs : xs0 = qAll fun y => a0 (ix3 (y 0) 0 (y 1))) :
    out0_B_7 (F := Ideal) c i arg2 harg2 arg3 harg3 arg4 harg4 arg5 harg5 arg6 harg6 arg7 harg7 arg8 harg8 arg9 harg9 arg10 harg10 arg11 harg11 hc0 x0 x1 x2 x3 x4 x5 xt0 xs0 = nBlk a0 a1 a2 a3 a4 a6 b := by
  subst hi
  unfold out0_B_7
  rw [View.read_writes_junk_eq_canon, run_B7]
  refine funext fun y => ?_
  obtain ⟨R, d, rfl⟩ : ∃ (R : Fin 16) (d : Fin 128), y = ix3 0 R d := ⟨y 1, y 2, by funext a; fin_cases a; exacts [Fin.ext (Nat.lt_one_iff.mp (y 0).isLt), rfl, rfl]⟩
  exact tail7 c (grid0.coords b) arg2 harg2 arg3 harg3 arg4 harg4 arg5 harg5 arg6 harg6 arg7 harg7 arg8 harg8 arg9 harg9 arg10 harg10 arg11 harg11 x1 x2 x3 x4 x5 a0 a1 a2 a3 a4 a5 a6 b h1 h2 h3 h4 h5 _ _ hl (fun R d => rows_of_read b arg10 _ (fun y => a0 (ix3 (y 0) 0 (y 1))) ((harg10.read_unread xs0).trans hxs) R d) R d

end Body

/-- What a first point leaves in the carried scratch. -/
theorem scratch_out (c : Dev nD) (i : grid0.Coords) (arg2 : Memref sig .tc .vmem S72x1536 .bf16) (harg2 : arg2.IsWhole) (arg3 : Memref sig .tc .vmem S1x4x128 .bf16) (harg3 : arg3.IsWhole) (arg4 : Memref sig .tc .vmem S1x4x128 .bf16) (harg4 : arg4.IsWhole) (arg5 : Memref sig .tc .vmem S1x8192x128 .fp8e4m3) (harg5 : arg5.IsWhole) (arg6 : Memref sig .tc .vmem S1x4x2048 .f32) (harg6 : arg6.IsWhole) (arg7 : Memref sig .tc .vmem S1x3x4x2048 .i8) (harg7 : arg7.IsWhole) (arg8 : Memref sig .tc .vmem S1x4x16x4x128 .f32) (harg8 : arg8.IsWhole) (arg9 : Memref sig .tc .vmem S1x16x128 .f32) (harg9 : arg9.IsWhole) (arg10 : Memref sig .tc .vmem S1152x128 .f32) (harg10 : arg10.IsWhole) (arg11 : Memref sig .tc .vmem S16x2048 .f32) (harg11 : arg11.IsWhole)
    (x0 : Vec Ideal S72x1536 .bf16) (x1 : Vec Ideal S1x4x128 .bf16) (x2 : Vec Ideal S1x4x128 .bf16) (x3 : Vec Ideal S1x8192x128 .fp8e4m3) (x4 : Vec Ideal S1x4x2048 .f32) (x5 : Vec Ideal S1x3x4x2048 .i8) (xt0 : TbBuf0 (F := Ideal) c tbM0_0) (hc0 : cond0_0 i) :
    sout0_A_0 (F := Ideal) c i arg2 harg2 arg3 harg3 arg4 harg4 arg5 harg5 arg6 harg6 arg7 harg7 arg8 harg8 arg9 harg9 arg10 harg10 arg11 harg11 hc0 x0 x1 x2 x3 x4 x5 xt0 = qAll x0 := by
  unfold sout0_A_0
  rw [View.read_writes_junk_eq_canon, scratch_A, canon_scratch]

variable (m : (ℓ : Loc nD τ sig) → Buf (Elt Ideal) ℓ) (hO : Ok m)

/-- The queries as a matrix. -/
def queries (c : Dev nD) : FVec Ideal S72x1536 .bf16 := fun y => (m ((c : Thread nD τ).loc main_arg0) : S72x1x1536.Idx → EReal) (ix3 (y 0) 0 (y 1))

/-- The first operand's block is the whole of it at every point. -/
theorem block0 (c : Dev nD) (t : Fin (cfgM m hO).N) : iblk m hO c 0 t = queries m c := by
  refine funext fun (y : S72x1536.Idx) => ?_
  obtain ⟨b, k, rfl⟩ : ∃ (b : Fin 72) (k : Fin 1536), y = ix2 b k := ⟨y 0, y 1, by funext a; fin_cases a <;> rfl⟩
  exact in0 m hO c t b k

/-- After every point the scratch holds every batch's padded query rows. -/
theorem carried (c : Dev nD) : ∀ (n : ℕ) (hn : n < (cfgM m hO).N), (outsAt0 m hO c n hn).2.2 = qAll (queries m c) := by
  have hA : ∀ (t : Fin (cfgM m hO).N), t.val % 72 = 0 → (outsAt0 m hO c t.val t.isLt).2.2 = qAll (queries m c) := fun t h0 => by
    refine (congrArg (fun x => x.2.2) (outsAt0_A m hO c t h0)).trans ?_
    exact (scratch_out c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) (iblk m hO c 0 t) (iblk m hO c 1 t) (iblk m hO c 2 t) (iblk m hO c 3 t) (iblk m hO c 4 t) (iblk m hO c 5 t) (tbl m 0) ((hcond0_0 t).mpr h0)).trans (congrArg qAll (block0 m hO c t))
  intro n
  induction n with
  | zero => exact fun hn => hA ⟨0, hn⟩ (Nat.zero_mod _)
  | succ n ih =>
    intro hn
    by_cases h0 : (n + 1) % 72 = 0
    · exact hA ⟨n + 1, hn⟩ h0
    · have h := outsAt0_B m hO c ⟨n + 1, hn⟩ h0
      exact (congrArg (fun x => x.2.2) h).trans (ih (Nat.lt_of_succ_lt hn))

/-- The first component of a triple given by its components. -/
theorem fst_of {A B C : Type} {x : A × B × C} {a : A} {b : B} {c : C} (h : x = (a, b, c)) : x.1 = a := by rw [h]

/-- The second component of a triple given by its components. -/
theorem snd_of {A B C : Type} {x : A × B × C} {a : A} {b : B} {c : C} (h : x = (a, b, c)) : x.2.1 = b := by rw [h]

/-- The first output's block after a point. -/
theorem point6 (c : Dev nD) (t : Fin (cfgM m hO).N) :
    (outsAt0 m hO c t.val t.isLt).1 = wBlk (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) ⟨t.val, lt72 m hO t⟩ := by
  by_cases h0 : t.val % 72 = 0
  · refine (fst_of (outsAt0_A m hO c t h0)).trans ?_
    exact out_A6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) (iblk m hO c 1 t) (iblk m hO c 2 t) (iblk m hO c 3 t) (iblk m hO c 4 t) (iblk m hO c 5 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ⟨t.val, lt72 m hO t⟩ (in1 m hO c t) (in2 m hO c t) (in3 m hO c t) (in4 m hO c t) (in5 m hO c t) rfl
      ((hcond0_0 t).mpr h0) (iblk m hO c 0 t) (block0 m hO c t) (tbl m 0) (len_at m hO c t)
  · refine (fst_of (outsAt0_B m hO c t h0)).trans ?_
    exact out_B6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) (iblk m hO c 1 t) (iblk m hO c 2 t) (iblk m hO c 3 t) (iblk m hO c 4 t) (iblk m hO c 5 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ⟨t.val, lt72 m hO t⟩ (in1 m hO c t) (in2 m hO c t) (in3 m hO c t) (in4 m hO c t) (in5 m hO c t) rfl
      (fun h => h0 ((hcond0_0 t).mp h)) (iblk m hO c 0 t) (tbl m 0) (len_at m hO c t) _ (carried m hO c (t.val - 1) (Nat.lt_of_le_of_lt (Nat.sub_le _ _) t.isLt))

/-- The second output's block after a point. -/
theorem point7 (c : Dev nD) (t : Fin (cfgM m hO).N) :
    (outsAt0 m hO c t.val t.isLt).2.1 = nBlk (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) ⟨t.val, lt72 m hO t⟩ := by
  by_cases h0 : t.val % 72 = 0
  · refine (snd_of (outsAt0_A m hO c t h0)).trans ?_
    exact out_A7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) (iblk m hO c 1 t) (iblk m hO c 2 t) (iblk m hO c 3 t) (iblk m hO c 4 t) (iblk m hO c 5 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ⟨t.val, lt72 m hO t⟩ (in1 m hO c t) (in2 m hO c t) (in3 m hO c t) (in4 m hO c t) (in5 m hO c t) rfl
      ((hcond0_0 t).mpr h0) (iblk m hO c 0 t) (block0 m hO c t) (tbl m 0) (len_at m hO c t)
  · refine (snd_of (outsAt0_B m hO c t h0)).trans ?_
    exact out_B7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) (iblk m hO c 1 t) (iblk m hO c 2 t) (iblk m hO c 3 t) (iblk m hO c 4 t) (iblk m hO c 5 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ⟨t.val, lt72 m hO t⟩ (in1 m hO c t) (in2 m hO c t) (in3 m hO c t) (in4 m hO c t) (in5 m hO c t) rfl
      (fun h => h0 ((hcond0_0 t).mp h)) (iblk m hO c 0 t) (tbl m 0) (len_at m hO c t) _ (carried m hO c (t.val - 1) (Nat.lt_of_le_of_lt (Nat.sub_le _ _) t.isLt))

/-- Where the first output's block at a point lies in its array. -/
theorem emb6 (t : Fin (cfgM m hO).N) (y : S1x4x16x4x128.Idx) :
    ((((cfgM m hO).win 6).blk t).view.emb y : S72x4x16x4x128.Idx) = ix5 ⟨t.val, lt72 m hO t⟩ (y 1) (y 2) (y 3) (y 4) := by
  have hi := (idx t).2.2.2.2.2.2.1
  refine funext fun a => Fin.ext ?_
  show cc0_transform_6 (grid0.coords t) a * S1x4x16x4x128.size a + 1 * (y a).val = _
  rw [hi]
  fin_cases a <;> simp [ix5, S1x4x16x4x128]

/-- The first result array after the run. -/
theorem final6 (c : Dev nD) : (dats m hO 0 c).arrAt 6 (cfgM m hO).N = wArr (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (dats m hO 0 c).arrAt_eq_of_emb 6 _ (fun t _ y => ?_) fun (i : S72x4x16x4x128.Idx) => ?_
  · refine Eq.trans ?_ (congrArg (wArr (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (emb6 m hO t y)).symm
    rw [after0_6, point6]
    rfl
  · have e : ((((cfgM m hO).win 6).blk ⟨(i 0).val, (i 0).isLt⟩).view.emb (ix5 0 (i 1) (i 2) (i 3) (i 4) : S1x4x16x4x128.Idx) : S72x4x16x4x128.Idx) = i :=
      (emb6 m hO ⟨(i 0).val, (i 0).isLt⟩ (ix5 0 (i 1) (i 2) (i 3) (i 4))).trans (by funext a; fin_cases a <;> rfl)
    refine ⟨⟨(i 0).val, (i 0).isLt⟩, flush0_6 _ _, ?_⟩
    have h := View.emb_mem_set ((((cfgM m hO).win 6).blk ⟨(i 0).val, (i 0).isLt⟩).view) (ix5 0 (i 1) (i 2) (i 3) (i 4) : S1x4x16x4x128.Idx)
    exact Eq.mp (congrArg (· ∈ (((cfgM m hO).win 6).blk ⟨(i 0).val, (i 0).isLt⟩).view.set) e) h

/-- Where the second output's block at a point lies in its array. -/
theorem emb7 (t : Fin (cfgM m hO).N) (y : S1x16x128.Idx) :
    ((((cfgM m hO).win 7).blk t).view.emb y : S72x16x128.Idx) = ix3 ⟨t.val, lt72 m hO t⟩ (y 1) (y 2) := by
  have hi := (idx t).2.2.2.2.2.2.2
  refine funext fun a => Fin.ext ?_
  show cc0_transform_7 (grid0.coords t) a * S1x16x128.size a + 1 * (y a).val = _
  rw [hi]
  fin_cases a <;> simp [ix3, S1x16x128]

/-- The second result array after the run. -/
theorem final7 (c : Dev nD) : (dats m hO 0 c).arrAt 7 (cfgM m hO).N = nArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  refine (dats m hO 0 c).arrAt_eq_of_emb 7 _ (fun t _ y => ?_) fun (i : S72x16x128.Idx) => ?_
  · refine Eq.trans ?_ (congrArg (nArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6))) (emb7 m hO t y)).symm
    rw [after0_7, point7]
    rfl
  · have e : ((((cfgM m hO).win 7).blk ⟨(i 0).val, (i 0).isLt⟩).view.emb (ix3 0 (i 1) (i 2) : S1x16x128.Idx) : S72x16x128.Idx) = i :=
      (emb7 m hO ⟨(i 0).val, (i 0).isLt⟩ (ix3 0 (i 1) (i 2))).trans (by funext a; fin_cases a <;> rfl)
    refine ⟨⟨(i 0).val, (i 0).isLt⟩, flush0_7 _ _, ?_⟩
    have h := View.emb_mem_set ((((cfgM m hO).win 7).blk ⟨(i 0).val, (i 0).isLt⟩).view) (ix3 0 (i 1) (i 2) : S1x16x128.Idx)
    exact Eq.mp (congrArg (· ∈ (((cfgM m hO).win 7).blk ⟨(i 0).val, (i 0).isLt⟩).view.set) e) h

include hO in
/-- The kernel's run: both result arrays are the specification's at the arguments, which end unchanged. -/
theorem run (ρ : Dev nD → PrngReg) : θ_run defs (onTc (τ := τ) (main (F := Ideal))) ⟨m, fun _ => 0, ρ⟩ (fun r => ∀ c : Dev nD,
      r.2.mem ((c.tc : Thread nD τ).loc main_v6_0) = wArr (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))
      ∧ r.2.mem ((c.tc : Thread nD τ).loc main_v6_1) = nArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.1 c).1 6).trans (final6 m hO c), ((h.1 c).1 7).trans (final7 m hO c), h.2 c⟩)
    (θ_run_and (run_main m ρ hO) (unchanged m ρ hO))

end Cert.ScoresIdeal.Canon

end
-- ==== Proof.ScoresRefWords.lean ====
module

public import proofs.«01_k».proof.Proof.ScoresPure
public import proofs.«01_k».proof.Proof.Gen.ScoresRefIdeal.Run

@[expose] public section

set_option maxRecDepth 16384

noncomputable section

open Idealize.ShloMosaic Idealize.ShloMosaic.TcCoe Idealize.ShloMosaic.Tactic Idealize.SL.Sem
open Idealize.ShloMosaic.Pipeline (Dat)

namespace Cert.ScoresRefIdeal.Canon

open Cert.ScoresRefIdeal Cert.ScoresRefIdeal.Gen Cert.ScoresRefIdeal.Value
open Cert.ScoresIdeal.Canon (soft softNew peak word placeOf)

variable (V0 : Valuation τ sig (Elt Ideal))

/-- The tokens' three bytes. -/
def bytes : S72x2048x4x3.Idx → BitVec 8 := V0 (Proc.devRef .tc main_arg5)
/-- The tokens' first codes. -/
def r45 : S72x2048x4.Idx → BitVec 32 := res_main_v45 (F := Ideal) V0
/-- The tokens' second codes. -/
def r54 : S72x2048x4.Idx → BitVec 32 := res_main_v54 (F := Ideal) V0

/-- The shifts are by less than a word, so the unit that makes them does not matter. -/
theorem word_unit (b0 b1 b2 : BitVec 8) : word .vector b0 b1 b2 = word .host b0 b1 b2 := rfl

/-- The words of the tokens' codes. -/
def wordsRef : S72x2048x4.Idx → BitVec 32 :=
  ori (ori (Host.shli (Host.shrsi (r45 V0) (broadcastInDim S72x2048x4 ![] bcast_S_S72x2048x4 (constantI S_ 32 7#32))) (broadcastInDim S72x2048x4 ![] bcast_S_S72x2048x4 (constantI S_ 32 8#32))) (andi (r45 V0) (broadcastInDim S72x2048x4 ![] bcast_S_S72x2048x4 (constantI S_ 32 127#32)))) (Host.shli (ori (ori (Host.shli (Host.shrsi (r54 V0) (broadcastInDim S72x2048x4 ![] bcast_S_S72x2048x4 (constantI S_ 32 7#32))) (broadcastInDim S72x2048x4 ![] bcast_S_S72x2048x4 (constantI S_ 32 8#32))) (andi (r54 V0) (broadcastInDim S72x2048x4 ![] bcast_S_S72x2048x4 (constantI S_ 32 127#32)))) (broadcastInDim S72x2048x4 ![] bcast_S_S72x2048x4 (constantI S_ 32 128#32))) (broadcastInDim S72x2048x4 ![] bcast_S_S72x2048x4 (constantI S_ 32 16#32)))

theorem wordsRef_at (b : Fin 72) (kv : Fin 4) (t : Fin 2048) :
    wordsRef V0 (ix3 b t kv) = word .host (bytes V0 (ix4 b t kv 0)) (bytes V0 (ix4 b t kv 1)) (bytes V0 (ix4 b t kv 2)) := by
  have h45 : r45 V0 (ix3 b t kv) = IntOp.ori ((bytes V0 (ix4 b t kv 0)).setWidth 32) (IntOp.shli .host (IntOp.andi ((bytes V0 (ix4 b t kv 1)).setWidth 32) 15#32) 8#32) := by
    unfold r45 bytes
    pointwise [res_main_v45, res_main_v36]
  have h54 : r54 V0 (ix3 b t kv) = IntOp.ori (IntOp.shrsi .host ((bytes V0 (ix4 b t kv 1)).setWidth 32) 4#32) (IntOp.shli .host ((bytes V0 (ix4 b t kv 2)).setWidth 32) 4#32) := by
    unfold r54 bytes
    pointwise [res_main_v54, res_main_v36]
  unfold wordsRef word
  rw [← h45, ← h54]
  generalize r45 V0 = x at *
  generalize r54 V0 = y at *
  pointwise [placeOf]

/-- The first result from the probabilities and the words. -/
def weave (p : FVec Ideal S72x4x4x2048 .f32) (w : IVec S72x2048x4 32) : FVec Ideal S72x4x16x4x128 .f32 :=
  transpose S72x4x16x4x128 [0, 1, 3, 2, 4] (shapeCast S72x4x4x16x128 (concatenate S72x4x4x2048 2 [⟨S72x4x3x2048, (extractStridedSlice S72x4x3x2048 ![0, 0, 0, 0] p slices_S72x4x4x2048_S72x4x3x2048_0_0_0_0)⟩, ⟨S72x4x1x2048, (broadcastInDim S72x4x1x2048 ![0, 1, 3] bcast_S72x4x2048_S72x4x1x2048_0_1_3 (bitcastToFloat (F := Ideal) .f32 (transpose S72x4x2048 [0, 2, 1] w transposes_S72x2048x4_S72x4x2048_0_2_1)))⟩] concatenates_S72x4x3x2048_S72x4x1x2048_S72x4x4x2048_d2) shapeCasts_S72x4x4x2048_S72x4x4x16x128) transposes_S72x4x4x16x128_S72x4x16x4x128_0_1_3_2_4

theorem weave_at (p : FVec Ideal S72x4x4x2048 .f32) (w : IVec S72x2048x4 32) (b : Fin 72) (kv : Fin 4) (T : Fin 16) (g : Fin 4) (l : Fin 128) :
    weave p w (ix5 b kv T g l) = if g.val < 3 then p (ix4 b kv g ⟨128 * T.val + l.val, by omega⟩) else Ideal.ofBits .f32 (w (ix3 b ⟨128 * T.val + l.val, by omega⟩ kv)) := by
  have e : ∀ h, (⟨T.val * 128 + l.val, h⟩ : Fin 2048) = ⟨128 * T.val + l.val, by omega⟩ := fun _ => Fin.ext (by dsimp only; omega)
  pointwise [weave]
  by_cases h : g.val < 3
  · rw [dif_pos h, if_pos h]
    exact congrArg p (congrArg (ix4 b kv g) (e _))
  · rw [dif_neg h, if_neg h]
    exact congrArg (fun t => Ideal.ofBits .f32 (w (ix3 b t kv))) (e _)

/-- The second result from the new token's probabilities and values. -/
def share (p : FVec Ideal S72x4x4 .f32) (v : FVec Ideal S72x1x4x128 .bf16) : FVec Ideal S72x16x128 .f32 :=
  shapeCast S72x16x128 (mulf (broadcastInDim S72x4x4x128 ![0, 1, 2, 3] bcast_S72x4x4x1_S72x4x4x128_0_1_2_3 (broadcastInDim S72x4x4x1 ![0, 1, 2] bcast_S72x4x4_S72x4x4x1_0_1_2 p)) (broadcastInDim S72x4x4x128 ![0, 1, 2, 3] bcast_S72x4x1x128_S72x4x4x128_0_1_2_3 (broadcastInDim S72x4x1x128 ![0, 1, 3] bcast_S72x4x128_S72x4x1x128_0_1_3 (extf .f32 (shapeCast _ v shapeCasts_S72x1x4x128_S72x4x128) bitsLt_bf16_f32)))) shapeCasts_S72x4x4x128_S72x16x128

theorem share_at (p : FVec Ideal S72x4x4 .f32) (v : FVec Ideal S72x1x4x128 .bf16) (b : Fin 72) (R : Fin 16) (d : Fin 128) :
    share p v (ix3 b R d) = (p (ix3 b ⟨R.val / 4, by omega⟩ ⟨R.val % 4, by omega⟩) : EReal) * v (ix4 b 0 ⟨R.val / 4, by omega⟩ d) := by
  pointwise [share]

end Cert.ScoresRefIdeal.Canon

end
-- ==== Proof.ScoresRegion.lean ====
module

public import proofs.«01_k».proof.Proof.ScoresPure
public import proofs.«01_k».proof.Proof.Gen.ScoresRefIdeal.Run

@[expose] public section

set_option maxRecDepth 16384

noncomputable section

open Idealize.ShloMosaic Idealize.ShloMosaic.TcCoe Idealize.ShloMosaic.Tactic Idealize.SL.Sem
open Idealize.ShloMosaic.Pipeline (Dat)

namespace Cert.ScoresRefIdeal.Canon

open Cert.ScoresRefIdeal Cert.ScoresRefIdeal.Gen Cert.ScoresRefIdeal.Value

variable (m : (ℓ : Loc nD τ sig) → Buf (Elt Ideal) ℓ)

theorem idx : ∀ t : Fin cfg0.N, win0_0.index t = ![0, 0, 0, 0] ∧ win0_1.index t = ![0, 0, 0, 0] :=
  (by decide +kernel : ∀ t : Fin grid0.N, _)

/-- The whole array of codes is the one point's block. -/
theorem block_at (c : Dev nD) (t : Fin cfg0.N) (b : Fin 72) (s : Fin 2048) (kv : Fin 4) (d : Fin 128) :
    iblk m c 0 t (ix4 b s kv d) = m ((c : Thread nD τ).loc main_arg3) (ix4 b s kv d) := by
  blk_simp [iblk, idx t]
  entry_read
  pointwise []
  blk_ext [idx t]

/-- The cast of a block is the block. -/
theorem cast_at (x : Vec Ideal S72x2048x4x128 .fp8e4m3) (y : S72x2048x4x128.Idx) : out0_1 (F := Ideal) x y = x y := by
  unfold out0_1
  rw [View.canon_unit_zero (by decide +kernel)]
  have e : View.ld (Val := Elt Ideal) (e' := .fp8e4m3) x r0_0 = x := View.ld_unit_zero (S := S72x2048x4x128) (off := ![0, 0, 0, 0]) (by decide +kernel) _ _
  rw [e]
  idx_vars y
  pointwise [k0_pay1]

/-- The cast codes are the codes. -/
theorem region_eq (c : Dev nD) : (reg_main_v0 (F := Ideal) m c : S72x2048x4x128.Idx → EReal) = m ((c : Thread nD τ).loc main_arg3) := by
  unfold reg_main_v0
  refine (dats m 0 c).arrAt_eq_of_covers 1 _ (by decide +kernel) fun t _ y => ?_
  blk_simp
  rw [after0_1]
  idx_vars y
  refine (cast_at _ _).trans ((block_at m c t y0 y1 y2 y3).trans (congrArg _ ?_))
  blk_ext [idx t]

end Cert.ScoresRefIdeal.Canon

end
-- ==== Proof.ScoresRefValue.lean ====
module

public import proofs.«01_k».proof.Proof.ScoresValue
public import proofs.«01_k».proof.Proof.ScoresRefWords
public import proofs.«01_k».proof.Proof.ScoresRegion

@[expose] public section

set_option maxRecDepth 16384

noncomputable section

open Idealize.ShloMosaic Idealize.ShloMosaic.TcCoe Idealize.ShloMosaic.Tactic Idealize.SL.Sem
open Idealize.ShloMosaic.Pipeline (Dat)

namespace Cert.ScoresRefIdeal.Canon

open Cert.ScoresRefIdeal Cert.ScoresRefIdeal.Gen Cert.ScoresRefIdeal.Value
open Cert.ScoresIdeal.Canon (soft softNew word wArr wAt nArr nAt)

variable (m : (ℓ : Loc nD τ sig) → Buf (Elt Ideal) ℓ)

/-- The reference's cached tokens' scores, at the arguments. -/
theorem scores_ref (c : Dev nD) (b : Fin 72) (kv g : Fin 4) :
    (fun t => r17 (exitV m c) (ix4 b kv g t)) = cached (m ((c : Thread nD τ).loc main_arg0)) (m ((c : Thread nD τ).loc main_arg3)) (m ((c : Thread nD τ).loc main_arg4)) (m ((c : Thread nD τ).loc main_arg6)) b ⟨4 * kv.val + g.val, by omega⟩ := by
  funext t
  rw [v17_at, exit_main_arg0, exit_main_v0, exit_main_arg4, exit_main_arg6, region_eq]

/-- The reference's new token's score, at the arguments. -/
theorem new_ref (c : Dev nD) (b : Fin 72) (kv g : Fin 4) :
    r21 (exitV m c) (ix3 b kv g) = fresh (m ((c : Thread nD τ).loc main_arg0)) (m ((c : Thread nD τ).loc main_arg1)) b ⟨4 * kv.val + g.val, by omega⟩ := by
  rw [v21_at, exit_main_arg0, exit_main_arg1]

/-- The reference's codes are the argument's. -/
theorem bytes_ref (c : Dev nD) : bytes (exitV m c) = (m ((c : Thread nD τ).loc main_arg5)) := exit_main_arg5 m c

/-- The reference's first result is the specification's. -/
theorem w_ref (c : Dev nD) : weave (probs (exitV m c)) (wordsRef (exitV m c)) = wArr (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine funext fun (y : S72x4x16x4x128.Idx) => ?_
  obtain ⟨b, kv, T, g, l, rfl⟩ : ∃ (b : Fin 72) (kv : Fin 4) (T : Fin 16) (g : Fin 4) (l : Fin 128), y = ix5 b kv T g l := ⟨y 0, y 1, y 2, y 3, y 4, by funext a; fin_cases a <;> rfl⟩
  rw [weave_at]
  show _ = wAt (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) b kv T g l
  unfold wAt
  rw [probs_at, scores_ref, new_ref, wordsRef_at, bytes_ref]
  rfl

/-- The reference's second result is the specification's. -/
theorem n_ref (c : Dev nD) : share (newProbs (exitV m c)) (exitV m c (Proc.devRef .tc main_arg2)) = nArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  refine funext fun (y : S72x16x128.Idx) => ?_
  obtain ⟨b, R, d, rfl⟩ : ∃ (b : Fin 72) (R : Fin 16) (d : Fin 128), y = ix3 b R d := ⟨y 0, y 1, y 2, by funext a; fin_cases a <;> rfl⟩
  rw [share_at]
  show _ = nAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) b R d
  unfold nAt
  have e : (⟨4 * (R.val / 4) + R.val % 4, by omega⟩ : Fin 16) = R := Fin.ext (by dsimp only; omega)
  rw [newProbs_at, scores_ref, new_ref, exit_main_arg2, e]

/-- The reference's run: both results are the specification's at the arguments, which end unchanged. -/
theorem run_ref (ρ : Dev nD → PrngReg) : θ_run defs (onTc (τ := τ) (main (F := Ideal))) ⟨m, fun _ => 0, ρ⟩ (fun r => ∀ c : Dev nD,
      r.2.mem ((c.tc : Thread nD τ).loc main_v80) = wArr (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))
      ∧ r.2.mem ((c.tc : Thread nD τ).loc main_v88) = nArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (w_ref m c), (h c).2.1.trans (n_ref m c), (h c).2.2⟩) (Cert.ScoresRefIdeal.Value.run (F := Ideal) m ρ)

end Cert.ScoresRefIdeal.Canon

end
-- ==== Proof.lean ====
module

public import proofs.«01_k».proof.Defs
public import proofs.«01_k».proof.Proof.Gen.Scores
public import proofs.«01_k».proof.Proof.Gen.Scores.Skeleton
public import proofs.«01_k».proof.Proof.Gen.Scores.Launch
public import proofs.«01_k».proof.Proof.Scores.Frame
public import proofs.«01_k».proof.Proof.Gen.ScoresIdeal
public import proofs.«01_k».proof.Proof.Gen.ScoresIdeal.Skeleton
public import proofs.«01_k».proof.Proof.Gen.ScoresIdeal.Launch
public import proofs.«01_k».proof.Proof.ScoresIdeal.Frame
public import proofs.«01_k».proof.Proof.Gen.ScoresRefIdeal
public import proofs.«01_k».proof.Proof.Gen.ScoresRefIdeal.Frame
public import proofs.«01_k».proof.Proof.Gen.ScoresRefIdeal.Run
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.OutIdeal.Value
public import proofs.«01_k».proof.Proof.Gen.OutRefIdeal.Run
public import proofs.«01_k».proof.Proof.OutValue
public import proofs.«01_k».proof.Proof.ScoresRefValue
public import Idealize.ShloMosaic.Lib.Quiescent
public import Idealize.ShloMosaic.Adequacy
public import Idealize.ShloMosaic.Init

@[expose] public section

noncomputable section

namespace Cert.Proof

open Idealize.ShloMosaic Idealize.SL.Sem Cert.Out

/-- The reference's run read at its arguments; it declares no semaphore. -/
theorem frame_OutRef : Cert.quiescent_OutRefIdeal := fun m ρ _ =>
  (θ_run Cert.OutRefIdeal.defs _ _).mono (fun r h => ⟨fun c => ⟨(h c).2.1, (h c).2.2.1, (h c).2.2.2⟩,
      Idealize.ShloMosaic.sem_eq_zero_of_no_sems (by decide) r.2⟩)
    (Cert.OutRefIdeal.Value.run (F := Ideal) m ρ)

/-- At the ideal instance the output projection's result array and the reference's are one function of the arguments. -/
theorem algebraic_Out : Cert.algebraic_OutIdeal_OutRefIdeal := by
  intro m ρ m' ρ' _ hagree
  refine ⟨fun c => Cert.OutIdeal.RefValue.REF (m (c.tc.loc Cert.OutIdeal.main_arg0)) (m (c.tc.loc Cert.OutIdeal.main_arg1))
    (m (c.tc.loc Cert.OutIdeal.main_arg2)), ?_, ?_⟩
  · exact (θ_run Cert.OutIdeal.defs _ _).mono
      (fun _ h c => ⟨(h c).1.trans (Cert.OutIdeal.RefValue.final m c), (h c).2⟩)
      (Cert.OutIdeal.Value.run_blocks (F := Ideal) m ρ)
  · refine (θ_run Cert.OutRefIdeal.defs _ _).mono (fun _ h c => ⟨(h c).1.trans ?_, (h c).2⟩)
      (Cert.OutRefIdeal.Value.run (F := Ideal) m' ρ')
    rw [(hagree c).1, (hagree c).2.1, (hagree c).2.2]
    rfl

/-- At the ideal instance the scores kernel's two result arrays and the reference's are one pair of functions of the arguments. -/
theorem algebraic_Scores : Cert.algebraic_ScoresIdeal_ScoresRefIdeal := by
  intro m ρ m' ρ' _ hagree
  refine ⟨fun c => Cert.ScoresIdeal.Canon.wArr (m (c.tc.loc Cert.ScoresIdeal.main_arg0)) (m (c.tc.loc Cert.ScoresIdeal.main_arg1))
      (m (c.tc.loc Cert.ScoresIdeal.main_arg3)) (m (c.tc.loc Cert.ScoresIdeal.main_arg4)) (m (c.tc.loc Cert.ScoresIdeal.main_arg5)) (m (c.tc.loc Cert.ScoresIdeal.main_arg6)),
    fun c => Cert.ScoresIdeal.Canon.nArr (m (c.tc.loc Cert.ScoresIdeal.main_arg0)) (m (c.tc.loc Cert.ScoresIdeal.main_arg1)) (m (c.tc.loc Cert.ScoresIdeal.main_arg2))
      (m (c.tc.loc Cert.ScoresIdeal.main_arg3)) (m (c.tc.loc Cert.ScoresIdeal.main_arg4)) (m (c.tc.loc Cert.ScoresIdeal.main_arg6)), ?_, ?_⟩
  · exact Cert.ScoresIdeal.Canon.run m trivial ρ
  · refine (θ_run Cert.ScoresRefIdeal.defs _ _).mono (fun _ h c => ⟨(h c).1.trans ?_, (h c).2.1.trans ?_, (h c).2.2⟩)
      (Cert.ScoresRefIdeal.Canon.run_ref m' ρ')
    · rw [(hagree c).1, (hagree c).2.1, (hagree c).2.2.2.1, (hagree c).2.2.2.2.1, (hagree c).2.2.2.2.2.1, (hagree c).2.2.2.2.2.2]
    · rw [(hagree c).1, (hagree c).2.1, (hagree c).2.2.1, (hagree c).2.2.2.1, (hagree c).2.2.2.2.1, (hagree c).2.2.2.2.2.2]

theorem claim : Cert.Claim := ⟨Cert.Scores.Gen.facts, Cert.ScoresIdeal.Gen.facts, Cert.ScoresRefIdeal.Gen.facts,
  Cert.Out.Gen.facts, Cert.OutIdeal.Gen.facts, Cert.OutRefIdeal.Gen.facts,
  fun m ρ _ => Cert.Scores.Gen.frame m ρ trivial, fun m ρ _ => Cert.ScoresIdeal.Gen.frame m ρ trivial, fun m ρ _ => Cert.ScoresRefIdeal.Gen.frame m ρ,
  fun m ρ _ => Cert.Out.Gen.frame m ρ, fun m ρ _ => Cert.OutIdeal.Gen.frame m ρ, frame_OutRef,
  trivial, algebraic_Scores, trivial, algebraic_Out⟩

end Cert.Proof

end
